-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x1536 : Shape := ⟨3, ![16, 4096, 1536]⟩
abbrev S16x4096 : Shape := ⟨2, ![16, 4096]⟩
abbrev S16x1536 : Shape := ⟨2, ![16, 1536]⟩
abbrev S16x3x1536 : Shape := ⟨3, ![16, 3, 1536]⟩
abbrev S16x32x3x1536 : Shape := ⟨4, ![16, 32, 3, 1536]⟩
abbrev S1x128x1536 : Shape := ⟨3, ![1, 128, 1536]⟩
abbrev S1x3x1536 : Shape := ⟨3, ![1, 3, 1536]⟩
abbrev S1x1x3x1536 : Shape := ⟨4, ![1, 1, 3, 1536]⟩
abbrev S128x128 : Shape := ⟨2, ![128, 128]⟩
abbrev S8x128 : Shape := ⟨2, ![8, 128]⟩
abbrev S128 : Shape := ⟨1, ![128]⟩
abbrev S1x128 : Shape := ⟨2, ![1, 128]⟩
abbrev S8x1536 : Shape := ⟨2, ![8, 1536]⟩
abbrev S1536 : Shape := ⟨1, ![1536]⟩
abbrev S1x1536 : Shape := ⟨2, ![1, 1536]⟩
abbrev S1x32x1536 : Shape := ⟨3, ![1, 32, 1536]⟩
abbrev S32x1536 : Shape := ⟨2, ![32, 1536]⟩
abbrev S32x1 : Shape := ⟨2, ![32, 1]⟩
abbrev S32 : Shape := ⟨1, ![32]⟩
abbrev S4x8x1536 : Shape := ⟨3, ![4, 8, 1536]⟩
abbrev S32x128 : Shape := ⟨2, ![32, 128]⟩
abbrev S3x1536 : Shape := ⟨2, ![3, 1536]⟩

abbrev nBuf : Space → Nat
  | .hbm => 12
  | .vmem => 23
  | .smem => 0
  | _ => 0

abbrev bufTy : (tb : Table) → Fin (tcTables nBuf tb) → BufTy
  | .hbm, ⟨0, _⟩ => ⟨S16x4096x1536, .fp8e4m3⟩
  | .hbm, ⟨1, _⟩ => ⟨S16x4096, .f32⟩
  | .hbm, ⟨2, _⟩ => ⟨S16x4096x1536, .bf16⟩
  | .hbm, ⟨3, _⟩ => ⟨S16x4096x1536, .fp8e5m2⟩
  | .hbm, ⟨4, _⟩ => ⟨S16x4096, .f32⟩
  | .hbm, ⟨5, _⟩ => ⟨S16x4096x1536, .fp8e5m2⟩
  | .hbm, ⟨6, _⟩ => ⟨S16x4096, .f32⟩
  | .hbm, ⟨7, _⟩ => ⟨S16x1536, .f32⟩
  | .hbm, ⟨8, _⟩ => ⟨S16x3x1536, .f32⟩
  | .hbm, ⟨9, _⟩ => ⟨S16x32x3x1536, .f32⟩
  | .hbm, ⟨10, _⟩ => ⟨S16x4096x1536, .fp8e5m2⟩
  | .hbm, ⟨11, _⟩ => ⟨S16x4096, .f32⟩
  | .local _ .vmem, ⟨0, _⟩ => ⟨S1x128x1536, .fp8e4m3⟩
  | .local _ .vmem, ⟨1, _⟩ => ⟨S1x128x1536, .fp8e4m3⟩
  | .local _ .vmem, ⟨2, _⟩ => ⟨S16x4096, .f32⟩
  | .local _ .vmem, ⟨3, _⟩ => ⟨S1x128x1536, .bf16⟩
  | .local _ .vmem, ⟨4, _⟩ => ⟨S1x128x1536, .bf16⟩
  | .local _ .vmem, ⟨5, _⟩ => ⟨S1x128x1536, .fp8e5m2⟩
  | .local _ .vmem, ⟨6, _⟩ => ⟨S1x128x1536, .fp8e5m2⟩
  | .local _ .vmem, ⟨7, _⟩ => ⟨S16x4096, .f32⟩
  | .local _ .vmem, ⟨8, _⟩ => ⟨S1x128x1536, .fp8e5m2⟩
  | .local _ .vmem, ⟨9, _⟩ => ⟨S1x128x1536, .fp8e5m2⟩
  | .local _ .vmem, ⟨10, _⟩ => ⟨S16x4096, .f32⟩
  | .local _ .vmem, ⟨11, _⟩ => ⟨S16x1536, .f32⟩
  | .local _ .vmem, ⟨12, _⟩ => ⟨S1x3x1536, .f32⟩
  | .local _ .vmem, ⟨13, _⟩ => ⟨S1x3x1536, .f32⟩
  | .local _ .vmem, ⟨14, _⟩ => ⟨S1x1x3x1536, .f32⟩
  | .local _ .vmem, ⟨15, _⟩ => ⟨S1x1x3x1536, .f32⟩
  | .local _ .vmem, ⟨16, _⟩ => ⟨S1x128x1536, .fp8e5m2⟩
  | .local _ .vmem, ⟨17, _⟩ => ⟨S1x128x1536, .fp8e5m2⟩
  | .local _ .vmem, ⟨18, _⟩ => ⟨S16x4096, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | _, _ => ⟨S16x4096x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨2, ![16, 32], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_mult2 (i : grid0.Coords) : BitVec 32 :=
  let arg0 : BitVec 32 := BitVec.ofNat 32 (i 0).val
  let c0_i32_4 : BitVec 32 := 0#32
  let v16 : BitVec 1 := Scalar.cmpi .sgt arg0 c0_i32_4
  let v17 : BitVec 32 := Scalar.extui v16
  let c0_i32_5 : BitVec 32 := 0#32
  let v18 : BitVec 1 := Scalar.cmpi .slt arg0 c0_i32_5
  let v19 : BitVec 32 := Scalar.extui v18
  let v20 : BitVec 32 := Scalar.subi v17 v19
  let c8_i32_3 : BitVec 32 := 8#32
  let c0_i32_6 : BitVec 32 := 0#32
  let v21 : BitVec 1 := Scalar.cmpi .sgt c8_i32_3 c0_i32_6
  let v22 : BitVec 32 := Scalar.extui v21
  let c0_i32_7 : BitVec 32 := 0#32
  let v23 : BitVec 1 := Scalar.cmpi .slt c8_i32_3 c0_i32_7
  let v24 : BitVec 32 := Scalar.extui v23
  let v25 : BitVec 32 := Scalar.subi v22 v24
  let v26 : BitVec 1 := Scalar.cmpi .ne v20 v25
  let v27 : BitVec 32 := Scalar.remsi arg0 c8_i32_3
  let c0_i32_8 : BitVec 32 := 0#32
  let v28 : BitVec 1 := Scalar.cmpi .ne v27 c0_i32_8
  let v29 : BitVec 1 := Scalar.andi v26 v28
  let v15 : BitVec 32 := Scalar.divsi arg0 c8_i32_3
  let c1_i32_9 : BitVec 32 := 1#32
  let v30 : BitVec 32 := Scalar.subi v15 c1_i32_9
  let v31 : BitVec 32 := Scalar.select v29 v30 v15
  let c8_i32_10 : BitVec 32 := 8#32
  let v32 : BitVec 32 := Scalar.muli v31 c8_i32_10
  v32
def k0_off1 (i : grid0.Coords) : Fin 2 → Nat :=
  let arg0 : BitVec 32 := BitVec.ofNat 32 (i 0).val
  let c0_i32_4 : BitVec 32 := 0#32
  let v16 : BitVec 1 := Scalar.cmpi .sgt arg0 c0_i32_4
  let v17 : BitVec 32 := Scalar.extui v16
  let c0_i32_5 : BitVec 32 := 0#32
  let v18 : BitVec 1 := Scalar.cmpi .slt arg0 c0_i32_5
  let v19 : BitVec 32 := Scalar.extui v18
  let v20 : BitVec 32 := Scalar.subi v17 v19
  let c8_i32_3 : BitVec 32 := 8#32
  let c0_i32_6 : BitVec 32 := 0#32
  let v21 : BitVec 1 := Scalar.cmpi .sgt c8_i32_3 c0_i32_6
  let v22 : BitVec 32 := Scalar.extui v21
  let c0_i32_7 : BitVec 32 := 0#32
  let v23 : BitVec 1 := Scalar.cmpi .slt c8_i32_3 c0_i32_7
  let v24 : BitVec 32 := Scalar.extui v23
  let v25 : BitVec 32 := Scalar.subi v22 v24
  let v26 : BitVec 1 := Scalar.cmpi .ne v20 v25
  let v27 : BitVec 32 := Scalar.remsi arg0 c8_i32_3
  let c0_i32_8 : BitVec 32 := 0#32
  let v28 : BitVec 1 := Scalar.cmpi .ne v27 c0_i32_8
  let v29 : BitVec 1 := Scalar.andi v26 v28
  let v15 : BitVec 32 := Scalar.divsi arg0 c8_i32_3
  let c1_i32_9 : BitVec 32 := 1#32
  let v30 : BitVec 32 := Scalar.subi v15 c1_i32_9
  let v31 : BitVec 32 := Scalar.select v29 v30 v15
  let c8_i32_10 : BitVec 32 := 8#32
  let v32 : BitVec 32 := Scalar.muli v31 c8_i32_10
  let v33 : BitVec 32 := v32
  let v34 : Index := Scalar.indexCast v33
  let arg1 : BitVec 32 := BitVec.ofNat 32 (i 1).val
  let c128_i32 : BitVec 32 := 128#32
  let v0 : BitVec 32 := Scalar.muli arg1 c128_i32
  let v1 : BitVec 32 := v0
  let v35 : Index := Scalar.indexCast v1
  ![v34.toNat, v35.toNat]
def k0_mult3 (i : grid0.Coords) : BitVec 32 :=
  let arg0 : BitVec 32 := BitVec.ofNat 32 (i 0).val
  let c0_i32_20 : BitVec 32 := 0#32
  let v61 : BitVec 1 := Scalar.cmpi .sgt arg0 c0_i32_20
  let v62 : BitVec 32 := Scalar.extui v61
  let c0_i32_21 : BitVec 32 := 0#32
  let v63 : BitVec 1 := Scalar.cmpi .slt arg0 c0_i32_21
  let v64 : BitVec 32 := Scalar.extui v63
  let v65 : BitVec 32 := Scalar.subi v62 v64
  let c8_i32_19 : BitVec 32 := 8#32
  let c0_i32_22 : BitVec 32 := 0#32
  let v66 : BitVec 1 := Scalar.cmpi .sgt c8_i32_19 c0_i32_22
  let v67 : BitVec 32 := Scalar.extui v66
  let c0_i32_23 : BitVec 32 := 0#32
  let v68 : BitVec 1 := Scalar.cmpi .slt c8_i32_19 c0_i32_23
  let v69 : BitVec 32 := Scalar.extui v68
  let v70 : BitVec 32 := Scalar.subi v67 v69
  let v71 : BitVec 1 := Scalar.cmpi .ne v65 v70
  let v72 : BitVec 32 := Scalar.remsi arg0 c8_i32_19
  let c0_i32_24 : BitVec 32 := 0#32
  let v73 : BitVec 1 := Scalar.cmpi .ne v72 c0_i32_24
  let v74 : BitVec 1 := Scalar.andi v71 v73
  let v60 : BitVec 32 := Scalar.divsi arg0 c8_i32_19
  let c1_i32_25 : BitVec 32 := 1#32
  let v75 : BitVec 32 := Scalar.subi v60 c1_i32_25
  let v76 : BitVec 32 := Scalar.select v74 v75 v60
  let c8_i32_26 : BitVec 32 := 8#32
  let v77 : BitVec 32 := Scalar.muli v76 c8_i32_26
  v77
def k0_mult4 (i : grid0.Coords) : BitVec 32 :=
  let arg0 : BitVec 32 := BitVec.ofNat 32 (i 0).val
  let c0_i32_38 : BitVec 32 := 0#32
  let v106 : BitVec 1 := Scalar.cmpi .sgt arg0 c0_i32_38
  let v107 : BitVec 32 := Scalar.extui v106
  let c0_i32_39 : BitVec 32 := 0#32
  let v108 : BitVec 1 := Scalar.cmpi .slt arg0 c0_i32_39
  let v109 : BitVec 32 := Scalar.extui v108
  let v110 : BitVec 32 := Scalar.subi v107 v109
  let c8_i32_37 : BitVec 32 := 8#32
  let c0_i32_40 : BitVec 32 := 0#32
  let v111 : BitVec 1 := Scalar.cmpi .sgt c8_i32_37 c0_i32_40
  let v112 : BitVec 32 := Scalar.extui v111
  let c0_i32_41 : BitVec 32 := 0#32
  let v113 : BitVec 1 := Scalar.cmpi .slt c8_i32_37 c0_i32_41
  let v114 : BitVec 32 := Scalar.extui v113
  let v115 : BitVec 32 := Scalar.subi v112 v114
  let v116 : BitVec 1 := Scalar.cmpi .ne v110 v115
  let v117 : BitVec 32 := Scalar.remsi arg0 c8_i32_37
  let c0_i32_42 : BitVec 32 := 0#32
  let v118 : BitVec 1 := Scalar.cmpi .ne v117 c0_i32_42
  let v119 : BitVec 1 := Scalar.andi v116 v118
  let v105 : BitVec 32 := Scalar.divsi arg0 c8_i32_37
  let c1_i32_43 : BitVec 32 := 1#32
  let v120 : BitVec 32 := Scalar.subi v105 c1_i32_43
  let v121 : BitVec 32 := Scalar.select v119 v120 v105
  let c8_i32_44 : BitVec 32 := 8#32
  let v122 : BitVec 32 := Scalar.muli v121 c8_i32_44
  v122
def k0_mult5 (i : grid0.Coords) : BitVec 32 :=
  let arg0 : BitVec 32 := BitVec.ofNat 32 (i 0).val
  let c0_i32_56 : BitVec 32 := 0#32
  let v151 : BitVec 1 := Scalar.cmpi .sgt arg0 c0_i32_56
  let v152 : BitVec 32 := Scalar.extui v151
  let c0_i32_57 : BitVec 32 := 0#32
  let v153 : BitVec 1 := Scalar.cmpi .slt arg0 c0_i32_57
  let v154 : BitVec 32 := Scalar.extui v153
  let v155 : BitVec 32 := Scalar.subi v152 v154
  let c8_i32_55 : BitVec 32 := 8#32
  let c0_i32_58 : BitVec 32 := 0#32
  let v156 : BitVec 1 := Scalar.cmpi .sgt c8_i32_55 c0_i32_58
  let v157 : BitVec 32 := Scalar.extui v156
  let c0_i32_59 : BitVec 32 := 0#32
  let v158 : BitVec 1 := Scalar.cmpi .slt c8_i32_55 c0_i32_59
  let v159 : BitVec 32 := Scalar.extui v158
  let v160 : BitVec 32 := Scalar.subi v157 v159
  let v161 : BitVec 1 := Scalar.cmpi .ne v155 v160
  let v162 : BitVec 32 := Scalar.remsi arg0 c8_i32_55
  let c0_i32_60 : BitVec 32 := 0#32
  let v163 : BitVec 1 := Scalar.cmpi .ne v162 c0_i32_60
  let v164 : BitVec 1 := Scalar.andi v161 v163
  let v150 : BitVec 32 := Scalar.divsi arg0 c8_i32_55
  let c1_i32_61 : BitVec 32 := 1#32
  let v165 : BitVec 32 := Scalar.subi v150 c1_i32_61
  let v166 : BitVec 32 := Scalar.select v164 v165 v150
  let c8_i32_62 : BitVec 32 := 8#32
  let v167 : BitVec 32 := Scalar.muli v166 c8_i32_62
  v167
def k0_off2 (i : grid0.Coords) : Fin 2 → Nat :=
  let arg0 : BitVec 32 := BitVec.ofNat 32 (i 0).val
  let c0_i32_56 : BitVec 32 := 0#32
  let v151 : BitVec 1 := Scalar.cmpi .sgt arg0 c0_i32_56
  let v152 : BitVec 32 := Scalar.extui v151
  let c0_i32_57 : BitVec 32 := 0#32
  let v153 : BitVec 1 := Scalar.cmpi .slt arg0 c0_i32_57
  let v154 : BitVec 32 := Scalar.extui v153
  let v155 : BitVec 32 := Scalar.subi v152 v154
  let c8_i32_55 : BitVec 32 := 8#32
  let c0_i32_58 : BitVec 32 := 0#32
  let v156 : BitVec 1 := Scalar.cmpi .sgt c8_i32_55 c0_i32_58
  let v157 : BitVec 32 := Scalar.extui v156
  let c0_i32_59 : BitVec 32 := 0#32
  let v158 : BitVec 1 := Scalar.cmpi .slt c8_i32_55 c0_i32_59
  let v159 : BitVec 32 := Scalar.extui v158
  let v160 : BitVec 32 := Scalar.subi v157 v159
  let v161 : BitVec 1 := Scalar.cmpi .ne v155 v160
  let v162 : BitVec 32 := Scalar.remsi arg0 c8_i32_55
  let c0_i32_60 : BitVec 32 := 0#32
  let v163 : BitVec 1 := Scalar.cmpi .ne v162 c0_i32_60
  let v164 : BitVec 1 := Scalar.andi v161 v163
  let v150 : BitVec 32 := Scalar.divsi arg0 c8_i32_55
  let c1_i32_61 : BitVec 32 := 1#32
  let v165 : BitVec 32 := Scalar.subi v150 c1_i32_61
  let v166 : BitVec 32 := Scalar.select v164 v165 v150
  let c8_i32_62 : BitVec 32 := 8#32
  let v167 : BitVec 32 := Scalar.muli v166 c8_i32_62
  let v168 : BitVec 32 := v167
  let v169 : Index := Scalar.indexCast v168
  let c0_63 : Index := 0#32
  ![v169.toNat, 0]
def k0_mult6 (i : grid0.Coords) : BitVec 32 :=
  let arg0 : BitVec 32 := BitVec.ofNat 32 (i 0).val
  let c0_i32_352 : BitVec 32 := 0#32
  let v903 : BitVec 1 := Scalar.cmpi .sgt arg0 c0_i32_352
  let v904 : BitVec 32 := Scalar.extui v903
  let c0_i32_353 : BitVec 32 := 0#32
  let v905 : BitVec 1 := Scalar.cmpi .slt arg0 c0_i32_353
  let v906 : BitVec 32 := Scalar.extui v905
  let v907 : BitVec 32 := Scalar.subi v904 v906
  let c8_i32_351 : BitVec 32 := 8#32
  let c0_i32_354 : BitVec 32 := 0#32
  let v908 : BitVec 1 := Scalar.cmpi .sgt c8_i32_351 c0_i32_354
  let v909 : BitVec 32 := Scalar.extui v908
  let c0_i32_355 : BitVec 32 := 0#32
  let v910 : BitVec 1 := Scalar.cmpi .slt c8_i32_351 c0_i32_355
  let v911 : BitVec 32 := Scalar.extui v910
  let v912 : BitVec 32 := Scalar.subi v909 v911
  let v913 : BitVec 1 := Scalar.cmpi .ne v907 v912
  let v914 : BitVec 32 := Scalar.remsi arg0 c8_i32_351
  let c0_i32_356 : BitVec 32 := 0#32
  let v915 : BitVec 1 := Scalar.cmpi .ne v914 c0_i32_356
  let v916 : BitVec 1 := Scalar.andi v913 v915
  let v902 : BitVec 32 := Scalar.divsi arg0 c8_i32_351
  let c1_i32_357 : BitVec 32 := 1#32
  let v917 : BitVec 32 := Scalar.subi v902 c1_i32_357
  let v918 : BitVec 32 := Scalar.select v916 v917 v902
  let c8_i32_358 : BitVec 32 := 8#32
  let v919 : BitVec 32 := Scalar.muli v918 c8_i32_358
  v919
def k0_mult7 (i : grid0.Coords) : BitVec 32 :=
  let arg0 : BitVec 32 := BitVec.ofNat 32 (i 0).val
  let c0_i32_360 : BitVec 32 := 0#32
  let v927 : BitVec 1 := Scalar.cmpi .sgt arg0 c0_i32_360
  let v928 : BitVec 32 := Scalar.extui v927
  let c0_i32_361 : BitVec 32 := 0#32
  let v929 : BitVec 1 := Scalar.cmpi .slt arg0 c0_i32_361
  let v930 : BitVec 32 := Scalar.extui v929
  let v931 : BitVec 32 := Scalar.subi v928 v930
  let c8_i32_359 : BitVec 32 := 8#32
  let c0_i32_362 : BitVec 32 := 0#32
  let v932 : BitVec 1 := Scalar.cmpi .sgt c8_i32_359 c0_i32_362
  let v933 : BitVec 32 := Scalar.extui v932
  let c0_i32_363 : BitVec 32 := 0#32
  let v934 : BitVec 1 := Scalar.cmpi .slt c8_i32_359 c0_i32_363
  let v935 : BitVec 32 := Scalar.extui v934
  let v936 : BitVec 32 := Scalar.subi v933 v935
  let v937 : BitVec 1 := Scalar.cmpi .ne v931 v936
  let v938 : BitVec 32 := Scalar.remsi arg0 c8_i32_359
  let c0_i32_364 : BitVec 32 := 0#32
  let v939 : BitVec 1 := Scalar.cmpi .ne v938 c0_i32_364
  let v940 : BitVec 1 := Scalar.andi v937 v939
  let v926 : BitVec 32 := Scalar.divsi arg0 c8_i32_359
  let c1_i32_365 : BitVec 32 := 1#32
  let v941 : BitVec 32 := Scalar.subi v926 c1_i32_365
  let v942 : BitVec 32 := Scalar.select v940 v941 v926
  let c8_i32_366 : BitVec 32 := 8#32
  let v943 : BitVec 32 := Scalar.muli v942 c8_i32_366
  v943
def k0_cond1 (i : grid0.Coords) : BitVec 1 :=
  let arg1 : BitVec 32 := BitVec.ofNat 32 (i 1).val
  let c0_i32_374 : BitVec 32 := 0#32
  let v958 : BitVec 1 := Scalar.cmpi .eq arg1 c0_i32_374
  let v959 : BitVec 32 := Scalar.extui v958
  let c0_i32_375 : BitVec 32 := 0#32
  let v960 : BitVec 1 := Scalar.cmpi .ne v959 c0_i32_375
  v960

def k0_cond2 (i : grid0.Coords) : BitVec 1 :=
  let arg1 : BitVec 32 := BitVec.ofNat 32 (i 1).val
  let c0_i32_376 : BitVec 32 := 0#32
  let v961 : BitVec 1 := Scalar.cmpi .sgt arg1 c0_i32_376
  let v962 : BitVec 32 := Scalar.extui v961
  let c0_i32_377 : BitVec 32 := 0#32
  let v963 : BitVec 1 := Scalar.cmpi .ne v962 c0_i32_377
  v963

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1536 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x1536 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x3x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x3x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1536 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S16x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S16x4096x1536 : Shape := ⟨3, ![16, 4096, 1536]⟩
abbrev S16x4096 : Shape := ⟨2, ![16, 4096]⟩
abbrev S16x1536 : Shape := ⟨2, ![16, 1536]⟩
abbrev S16x3x1536 : Shape := ⟨3, ![16, 3, 1536]⟩
abbrev S16x32x3x1536 : Shape := ⟨4, ![16, 32, 3, 1536]⟩
abbrev S16x4096x1 : Shape := ⟨3, ![16, 4096, 1]⟩
abbrev S16x32x128x1536 : Shape := ⟨4, ![16, 32, 128, 1536]⟩
abbrev S16x32x1536 : Shape := ⟨3, ![16, 32, 1536]⟩
abbrev S16x32x1x1536 : Shape := ⟨4, ![16, 32, 1, 1536]⟩
abbrev S16x1x1536 : Shape := ⟨3, ![16, 1, 1536]⟩

abbrev nBuf : Space → Nat
  | .hbm => 12
  | .vmem => 12
  | .smem => 0
  | _ => 0

abbrev bufTy : (tb : Table) → Fin (tcTables nBuf tb) → BufTy
  | .hbm, ⟨0, _⟩ => ⟨S16x4096x1536, .fp8e4m3⟩
  | .hbm, ⟨1, _⟩ => ⟨S16x4096, .f32⟩
  | .hbm, ⟨2, _⟩ => ⟨S16x4096x1536, .bf16⟩
  | .hbm, ⟨3, _⟩ => ⟨S16x4096x1536, .fp8e5m2⟩
  | .hbm, ⟨4, _⟩ => ⟨S16x4096, .f32⟩
  | .hbm, ⟨5, _⟩ => ⟨S16x4096x1536, .fp8e5m2⟩
  | .hbm, ⟨6, _⟩ => ⟨S16x4096, .f32⟩
  | .hbm, ⟨7, _⟩ => ⟨S16x1536, .f32⟩
  | .hbm, ⟨8, _⟩ => ⟨S16x3x1536, .f32⟩
  | .hbm, ⟨9, _⟩ => ⟨S16x32x3x1536, .f32⟩
  | .hbm, ⟨10, _⟩ => ⟨S16x4096x1536, .fp8e5m2⟩
  | .hbm, ⟨11, _⟩ => ⟨S16x4096, .f32⟩
  | .local _ .vmem, ⟨0, _⟩ => ⟨S16x4096x1536, .fp8e4m3⟩
  | .local _ .vmem, ⟨1, _⟩ => ⟨S16x4096, .f32⟩
  | .local _ .vmem, ⟨2, _⟩ => ⟨S16x4096x1536, .bf16⟩
  | .local _ .vmem, ⟨3, _⟩ => ⟨S16x4096x1536, .fp8e5m2⟩
  | .local _ .vmem, ⟨4, _⟩ => ⟨S16x4096, .f32⟩
  | .local _ .vmem, ⟨5, _⟩ => ⟨S16x4096x1536, .fp8e5m2⟩
  | .local _ .vmem, ⟨6, _⟩ => ⟨S16x4096, .f32⟩
  | .local _ .vmem, ⟨7, _⟩ => ⟨S16x1536, .f32⟩
  | .local _ .vmem, ⟨8, _⟩ => ⟨S16x3x1536, .f32⟩
  | .local _ .vmem, ⟨9, _⟩ => ⟨S16x32x3x1536, .f32⟩
  | .local _ .vmem, ⟨10, _⟩ => ⟨S16x4096x1536, .fp8e5m2⟩
  | .local _ .vmem, ⟨11, _⟩ => ⟨S16x4096, .f32⟩
  | _, _ => ⟨S16x4096x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S16x4096x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4096x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096x1536 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x4096x1536 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x3x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x32x3x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x4096x1536 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelFrame.lean ====
/- The frame of `Kernel`: the run terminates without a fault, leaves the eight argument arrays as they were
   and every semaphore counter at zero. The four output windows are forgotten: nothing is said here of what the
   kernel writes into them. One triple for the body (`kernelRun`), run at both branches of each of the two conditions
   on the step; the proof data and the launch theorem of the pipeline library do the rest. -/
module

public import proofs.«01_k».proof.Proof.Gen.Kernel.Frame
public import Idealize.ShloMosaic.Lib.Exec

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The body, run once -/

set_option maxHeartbeats 4000000 in
/-- The body from the inputs' staging buffers at any contents, the outputs' and the scratch buffers at anything: it runs to
    its return, the inputs' as they were, the others at some contents. -/
theorem kernelRun (c : Dev nD) (i : grid0.Coords)
    (arg2 : Memref sig .tc .vmem S1x128x1536 .fp8e4m3) (harg2 : arg2.IsWhole)
    (arg3 : Memref sig .tc .vmem S16x4096 .f32) (harg3 : arg3.IsWhole)
    (arg4 : Memref sig .tc .vmem S1x128x1536 .bf16) (harg4 : arg4.IsWhole)
    (arg5 : Memref sig .tc .vmem S1x128x1536 .fp8e5m2) (harg5 : arg5.IsWhole)
    (arg6 : Memref sig .tc .vmem S16x4096 .f32) (harg6 : arg6.IsWhole)
    (arg7 : Memref sig .tc .vmem S1x128x1536 .fp8e5m2) (harg7 : arg7.IsWhole)
    (arg8 : Memref sig .tc .vmem S16x4096 .f32) (harg8 : arg8.IsWhole)
    (arg9 : Memref sig .tc .vmem S16x1536 .f32) (harg9 : arg9.IsWhole)
    (arg10 : Memref sig .tc .vmem S1x3x1536 .f32) (harg10 : arg10.IsWhole)
    (arg11 : Memref sig .tc .vmem S1x1x3x1536 .f32) (harg11 : arg11.IsWhole)
    (arg12 : Memref sig .tc .vmem S1x128x1536 .fp8e5m2) (harg12 : arg12.IsWhole)
    (arg13 : Memref sig .tc .vmem S16x4096 .f32) (harg13 : arg13.IsWhole)
    (arg14 : Memref sig .tc .vmem S128x128 .f32) (harg14 : arg14.IsWhole)
    (arg15 : Memref sig .tc .vmem S128x128 .f32) (harg15 : arg15.IsWhole)
    (arg16 : Memref sig .tc .vmem S128x128 .f32) (harg16 : arg16.IsWhole)
    (arg17 : Memref sig .tc .vmem S128x128 .f32) (harg17 : arg17.IsWhole)
    (x0 : Vec F S1x128x1536 .fp8e4m3) (x1 : Vec F S16x4096 .f32) (x2 : Vec F S1x128x1536 .bf16) (x3 : Vec F S1x128x1536 .fp8e5m2) (x4 : Vec F S16x4096 .f32) (x5 : Vec F S1x128x1536 .fp8e5m2) (x6 : Vec F S16x4096 .f32) (x7 : Vec F S16x1536 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)) -∗ K ⟨⟩))
      ⊢ wp frame (wpE (defs₀ (F := F)) Variants.none c none) Set.univ
          (cc0_adaln_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  sl_unfold [cc0_adaln_bwd]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7
  by_cases h1 : k0_cond1 i = 1#1 <;> by_cases h2 : k0_cond2 i = 1#1
  all_goals
    sl_exec! (disch := first | sl_exact h1 | sl_exact h2)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

/-! ## The proof data -/

variable (m : (ℓ : Loc nD τ sig) → Buf (Elt F) ℓ) (ρ : Dev nD → PrngReg)

/-- The four output windows are forgotten. -/
def forgets : Fin 12 → Bool := fun w => decide (8 ≤ w.val)

/-- The proof data on core `c`: the arrays as the region finds them, each input's staging buffer left at its block, the
    outputs' unnamed; the scratch at anything; full shares; nothing owed. -/
def dats (_ : Fin 1) (c : Dev nD) : Dat τ (Elt F) Unit ℕ (UR sig nD τ) ℕ cfg0 c where
  A w := V m c (Pipeline.arrRef spec0 w)
  after w t :=
    match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => Pipeline.Dat.unnamed (cfg := cfg0) 8 t
    | 9 => Pipeline.Dat.unnamed (cfg := cfg0) 9 t
    | 10 => Pipeline.Dat.unnamed (cfg := cfg0) 10 t
    | 11 => Pipeline.Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d
theorem before0_2 (c : Dev nD) (t : Fin cfg0.N) (d) : (dats m 0 c).before 2 t d = iblk m c 2 t :=
  before0_2_of m (dats m 0 c) rfl (after0_2 m c) t d
theorem before0_3 (c : Dev nD) (t : Fin cfg0.N) (d) : (dats m 0 c).before 3 t d = iblk m c 3 t :=
  before0_3_of m (dats m 0 c) rfl (after0_3 m c) t d
theorem before0_4 (c : Dev nD) (t : Fin cfg0.N) (d) : (dats m 0 c).before 4 t d = iblk m c 4 t :=
  before0_4_of m (dats m 0 c) rfl (after0_4 m c) t d
theorem before0_5 (c : Dev nD) (t : Fin cfg0.N) (d) : (dats m 0 c).before 5 t d = iblk m c 5 t :=
  before0_5_of m (dats m 0 c) rfl (after0_5 m c) t d
theorem before0_6 (c : Dev nD) (t : Fin cfg0.N) (d) : (dats m 0 c).before 6 t d = iblk m c 6 t :=
  before0_6_of m (dats m 0 c) rfl (after0_6 m c) t d
theorem before0_7 (c : Dev nD) (t : Fin cfg0.N) (d) : (dats m 0 c).before 7 t d = iblk m c 7 t :=
  before0_7_of m (dats m 0 c) rfl (after0_7 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 1000000 in
/-- The body at point `t`: the scratch buffers taken out of the invariant, `kernelRun`, the scratch buffers put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6, after0_7]
  unfold Pipeline.ΦA
  rw [scopedRest0_eq]
  simp only [← owns_whole]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11⟩
  iapply (kernelRun c _ _ _ _ _ _ _ _ _ _ _ _ _ _ _ _ _ _ _ _ _ _ _ _ _ (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten: the triple restated. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The launch -/

set_option backward.isDefEq.respectTransparency.types false in
set_option maxHeartbeats 800000 in
/-- From any memory with zero counters, every execution terminates; at the end the inputs are as launched and the counters are zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨h.1.arr_in c 0 rfl, h.1.arr_in c 1 rfl, h.1.arr_in c 2 rfl, h.1.arr_in c 3 rfl, h.1.arr_in c 4 rfl, h.1.arr_in c 5 rfl, h.1.arr_in c 6 rfl, h.1.arr_in c 7 rfl⟩, h.2⟩) (run_main m ρ)

end Cert.Kernel.Hand

end
-- ==== Proof.Block.lean ====
/- What one grid point of the kernel computes, as functions of the blocks its windows hold. The four chunks of thirty-two
   rows differ only in the rows they read, so each function is stated once with the first row `o` of the chunk as a
   parameter; the terms are the program's own payloads of its first chunk. -/
module

public import proofs.«01_k».proof.Proof.Gen.KernelIdeal.Frame
public import proofs.«01_k».proof.Proof.Gen.KernelIdeal.Skeleton
public import Idealize.ShloMosaic.Lib.Exec
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe

variable {F : FTy → Type} [FloatOps F]

/-- Reading back after one rectangular write: the contents with the rectangle replaced. -/
theorem read_writes_one {sp : Space} {s : Shape} {e : EltTy} (v : View sig .tc sp s e) (f : v.ty.Contents (Elt F)) (r : Rect s)
    (w : r.shape.Idx → Elt F e) : v.read (Elt F) (v.writes (Elt F) f [⟨r, w⟩]) = r.overlay (v.read (Elt F) f) w := by
  funext j
  by_cases hj : j ∈ r.set
  · obtain ⟨x, rfl⟩ := r.exists_idx_of_mem hj
    exact (View.read_writes_cons_emb v f r w [] x).trans (r.overlay_emb _ w x).symm
  · rw [r.overlay_of_not_mem _ _ hj]
    exact View.read_writes_apply_of_forall_not_mem v f j _ fun p hp => by
      rw [List.mem_singleton] at hp; subst hp; exact hj

/-- The contents of the eight input windows at a grid point. -/
structure Ins (F : FTy → Type) [FloatOps F] where
  x0 : Vec F S1x128x1536 .fp8e4m3
  x1 : Vec F S16x4096 .f32
  x2 : Vec F S1x128x1536 .bf16
  x3 : Vec F S1x128x1536 .fp8e5m2
  x4 : Vec F S16x4096 .f32
  x5 : Vec F S1x128x1536 .fp8e5m2
  x6 : Vec F S16x4096 .f32
  x7 : Vec F S16x1536 .f32

/-- The thirty-two rows from row `o` of a block. -/
theorem rows_inb (o : Nat) (h : o + 32 ≤ 128) : ∀ a, (![0, o, 0] : Fin 3 → Nat) a + S1x32x1536.size a ≤ S1x128x1536.size a := by
  intro a
  match a with
  | 0 => show (0 : Nat) + 1 ≤ 1; omega
  | 1 => show o + 32 ≤ 128; omega
  | 2 => show (0 : Nat) + 1536 ≤ 1536; omega
theorem col_inb (o : Nat) (h : o + 32 ≤ 128) : ∀ a, (![o, 0] : Fin 2 → Nat) a + S32x1.size a ≤ S128x128.size a := by
  intro a
  match a with
  | 0 => show o + 32 ≤ 128; omega
  | 1 => show (0 : Nat) + 1 ≤ 128; omega
theorem out_inb (o : Nat) (h : o + 32 ≤ 128) : ∀ a, (![o, 0] : Fin 2 → Nat) a + S32x128.size a ≤ S128x128.size a := by
  intro a
  match a with
  | 0 => show o + 32 ≤ 128; omega
  | 1 => show (0 : Nat) + 128 ≤ 128; omega

def rowsCut {e : EltTy} (o : Nat) (h : o + 32 ≤ 128) (x : Vec F S1x128x1536 e) : Vec F S1x32x1536 e :=
  View.ld x (Rect.unit (s := S1x128x1536) ![0, o, 0] S1x32x1536.size (rows_inb o h))
def colCut (o : Nat) (h : o + 32 ≤ 128) (x : Vec F S128x128 .f32) : Vec F S32x1 .f32 :=
  View.ld x (Rect.unit (s := S128x128) ![o, 0] S32x1.size (col_inb o h))

/-- The eight-row group of a scale matrix that holds the batch row's 128 scales of this step. -/
def grp (i : grid0.Coords) (x : Vec F S16x4096 .f32) : Vec F S8x128 .f32 :=
  View.ld x (Rect.unit (s := S16x4096) (k0_off1 i) S8x128.size (k0_off1_inb i))
/-- The eight-row group of the modulation scales that holds the batch row's. -/
def grpW (i : grid0.Coords) (x : Vec F S16x1536 .f32) : Vec F S8x1536 .f32 :=
  View.ld x (Rect.unit (s := S16x1536) (k0_off2 i) S8x1536.size (k0_off2_inb i))

/-- The 128 scales of the step as a column, repeated over 128 lanes. -/
def scol (i : grid0.Coords) (x : Vec F S16x4096 .f32) : FVec F S128x128 .f32 := k0_pay5 (k0_pay4 i (grp i x))
/-- One plus the batch row's modulation scale. -/
def wrow (i : grid0.Coords) (I : Ins F) : FVec F S1x1536 .f32 :=
  k0_pay12 (k0_pay11 (BitVec.ofNat 32 (i 0).val)) (grpW i I.x7)

section chunk
variable (o : Nat) (h : o + 32 ≤ 128) (i : grid0.Coords) (I : Ins F)

def bX : FVec F S32x1536 .f32 := k0_pay16 (rowsCut o h I.x0) (colCut o h (scol i I.x1))
def bDY : FVec F S32x1536 .f32 := k0_pay17 (rowsCut o h I.x3) (colCut o h (scol i I.x4))
def bDH : FVec F S32x1536 .f32 := k0_pay18 (rowsCut o h I.x5) (colCut o h (scol i I.x6))
def bF : FVec F S32x1536 .f32 := k0_pay19 (rowsCut o h I.x2)
/-- The gradient of the thirty-two rows before quantisation. -/
def bDX : FVec F S32x1536 .f32 := k0_pay26 (wrow i I) (bX o h i I) (bDY o h i I) (bDH o h i I)
def bAbs : FVec F S32x1536 .f32 := k0_pay27 (wrow i I) (bX o h i I) (bDY o h i I) (bDH o h i I)
/-- The rows' exponents, -/
def bE : IVec S32x1 32 := k0_pay33 (k0_pay29 (bAbs o h i I)) (k0_pay30 (bAbs o h i I)) (k0_pay31 (bAbs o h i I)) k0_pay32
/-- their codes, -/
def bCode : FVec F S1x32x1536 .fp8e5m2 := k0_pay35 (bDX o h i I) (bE o h i I) 127#32
/-- and their scales, each repeated over 128 lanes. -/
def bScale : FVec F S32x128 .f32 :=
  k0_pay36 (k0_pay34 (k0_pay29 (bAbs o h i I)) (k0_pay30 (bAbs o h i I)) (k0_pay31 (bAbs o h i I)) k0_pay32)

/-- The running sums over the chunks of `dh`, of `dh * xhat` and of `dy * f`, one more chunk added. -/
def stepShift (a : FVec F S8x1536 .f32) : FVec F S8x1536 .f32 := k0_pay23 a (bDH o h i I)
def stepScal (a : FVec F S8x1536 .f32) : FVec F S8x1536 .f32 := k0_pay24 a (bX o h i I) (bDH o h i I)
def stepGate (a : FVec F S8x1536 .f32) : FVec F S8x1536 .f32 := k0_pay25 a (bDY o h i I) (bF o h I)

end chunk

section block
variable (i : grid0.Coords) (I : Ins F)

def bShift : FVec F S8x1536 .f32 :=
  stepShift 96 (by omega) i I (stepShift 64 (by omega) i I (stepShift 32 (by omega) i I (stepShift 0 (by omega) i I k0_pay13)))
def bScal : FVec F S8x1536 .f32 :=
  stepScal 96 (by omega) i I (stepScal 64 (by omega) i I (stepScal 32 (by omega) i I (stepScal 0 (by omega) i I k0_pay14)))
def bGate : FVec F S8x1536 .f32 :=
  stepGate 96 (by omega) i I (stepGate 64 (by omega) i I (stepGate 32 (by omega) i I (stepGate 0 (by omega) i I k0_pay15)))

/-- The three column sums of the block's 128 rows. -/
def bBlk : FVec F S3x1536 .f32 := k0_pay112 (bShift i I) (bScal i I) (bGate i I)

/-- The block's codes: the four chunks' rows. -/
def bCodes : Vec F S1x128x1536 .fp8e5m2 :=
  View.canon (Val := Elt F) (s := S1x128x1536) (e := .fp8e5m2)
    [⟨Rect.unit ![0, 96, 0] S1x32x1536.size (rows_inb 96 (by omega)), bCode 96 (by omega) i I⟩,
     ⟨Rect.unit ![0, 64, 0] S1x32x1536.size (rows_inb 64 (by omega)), bCode 64 (by omega) i I⟩,
     ⟨Rect.unit ![0, 32, 0] S1x32x1536.size (rows_inb 32 (by omega)), bCode 32 (by omega) i I⟩,
     ⟨Rect.unit ![0, 0, 0] S1x32x1536.size (rows_inb 0 (by omega)), bCode 0 (by omega) i I⟩]

/-- The block's scales, one per row, each repeated over 128 lanes. -/
def bScales : Vec F S128x128 .f32 :=
  View.canon (Val := Elt F) (s := S128x128) (e := .f32)
    [⟨Rect.unit ![96, 0] S32x128.size (out_inb 96 (by omega)), bScale 96 (by omega) i I⟩,
     ⟨Rect.unit ![64, 0] S32x128.size (out_inb 64 (by omega)), bScale 64 (by omega) i I⟩,
     ⟨Rect.unit ![32, 0] S32x128.size (out_inb 32 (by omega)), bScale 32 (by omega) i I⟩,
     ⟨Rect.unit ![0, 0] S32x128.size (out_inb 0 (by omega)), bScale 0 (by omega) i I⟩]

/-- The eight-row group of the scale output with the batch row's 128 scales of this step written in. -/
def bGroup (old : Vec F S8x128 .f32) : FVec F S8x128 .f32 :=
  k0_pay111 (BitVec.ofNat 32 (i 0).val) (iota .tc S8x128 32 [0] iota_S8x128_d0_w32) 8#32 0#32 (bScales i I) old

/-- The scale output's window after the step. -/
def bScaleWin (old : Vec F S16x4096 .f32) : Vec F S16x4096 .f32 :=
  (Rect.unit (s := S16x4096) (k0_off1 i) S8x128.size (k0_off1_inb i)).overlay old (bGroup i I (grp i old))

end block

end Cert.KernelIdeal.Hand

end
-- ==== Proof.KernelRun.lean ====
/- One run of the kernel's body, at a step with number zero and at a later step: from the input windows' contents `I`
   it leaves the row totals, the block's column sums, the block's codes and the scale output's window as `Block` states
   them. The named intermediate values of the run are rewritten bottom-up to the block functions. -/
module

public import proofs.«01_k».proof.Proof.Gen.KernelIdeal.Frame
public import proofs.«01_k».proof.Proof.Block

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a step with number zero: the row totals are set to the block's column sums. -/
theorem kernelRunFirst (c : Dev nD) (i : grid0.Coords)
    (arg2 : Memref sig .tc .vmem S1x128x1536 .fp8e4m3) (harg2 : arg2.IsWhole)
    (arg3 : Memref sig .tc .vmem S16x4096 .f32) (harg3 : arg3.IsWhole)
    (arg4 : Memref sig .tc .vmem S1x128x1536 .bf16) (harg4 : arg4.IsWhole)
    (arg5 : Memref sig .tc .vmem S1x128x1536 .fp8e5m2) (harg5 : arg5.IsWhole)
    (arg6 : Memref sig .tc .vmem S16x4096 .f32) (harg6 : arg6.IsWhole)
    (arg7 : Memref sig .tc .vmem S1x128x1536 .fp8e5m2) (harg7 : arg7.IsWhole)
    (arg8 : Memref sig .tc .vmem S16x4096 .f32) (harg8 : arg8.IsWhole)
    (arg9 : Memref sig .tc .vmem S16x1536 .f32) (harg9 : arg9.IsWhole)
    (arg10 : Memref sig .tc .vmem S1x3x1536 .f32) (harg10 : arg10.IsWhole)
    (arg11 : Memref sig .tc .vmem S1x1x3x1536 .f32) (harg11 : arg11.IsWhole)
    (arg12 : Memref sig .tc .vmem S1x128x1536 .fp8e5m2) (harg12 : arg12.IsWhole)
    (arg13 : Memref sig .tc .vmem S16x4096 .f32) (harg13 : arg13.IsWhole)
    (arg14 : Memref sig .tc .vmem S128x128 .f32) (harg14 : arg14.IsWhole)
    (arg15 : Memref sig .tc .vmem S128x128 .f32) (harg15 : arg15.IsWhole)
    (arg16 : Memref sig .tc .vmem S128x128 .f32) (harg16 : arg16.IsWhole)
    (arg17 : Memref sig .tc .vmem S128x128 .f32) (harg17 : arg17.IsWhole)
    (I : Ins F) (x11 : Vec F S16x4096 .f32) (h1 : k0_cond1 i = 1#1) (h2 : ¬ k0_cond2 i = 1#1) (K : PUnit → sProp 𝕄) :
    iprop(owns (c : Thread nD τ) arg2 fullShare I.x0
        ∗ owns (c : Thread nD τ) arg3 fullShare I.x1
        ∗ owns (c : Thread nD τ) arg4 fullShare I.x2
        ∗ owns (c : Thread nD τ) arg5 fullShare I.x3
        ∗ owns (c : Thread nD τ) arg6 fullShare I.x4
        ∗ owns (c : Thread nD τ) arg7 fullShare I.x5
        ∗ owns (c : Thread nD τ) arg8 fullShare I.x6
        ∗ owns (c : Thread nD τ) arg9 fullShare I.x7
        ∗ (∃ d, owns (c : Thread nD τ) arg10 fullShare d)
        ∗ (∃ d, owns (c : Thread nD τ) arg11 fullShare d)
        ∗ (∃ d, owns (c : Thread nD τ) arg12 fullShare d)
        ∗ owns (c : Thread nD τ) arg13 fullShare x11
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (iprop(owns (c : Thread nD τ) arg2 fullShare I.x0
        ∗ owns (c : Thread nD τ) arg3 fullShare I.x1
        ∗ owns (c : Thread nD τ) arg4 fullShare I.x2
        ∗ owns (c : Thread nD τ) arg5 fullShare I.x3
        ∗ owns (c : Thread nD τ) arg6 fullShare I.x4
        ∗ owns (c : Thread nD τ) arg7 fullShare I.x5
        ∗ owns (c : Thread nD τ) arg8 fullShare I.x6
        ∗ owns (c : Thread nD τ) arg9 fullShare I.x7
        ∗ owns (c : Thread nD τ) arg10 fullShare (k0_pay2 (bBlk i I))
        ∗ owns (c : Thread nD τ) arg11 fullShare (k0_pay1 (bBlk i I))
        ∗ owns (c : Thread nD τ) arg12 fullShare (bCodes i I)
        ∗ owns (c : Thread nD τ) arg13 fullShare (bScaleWin i I x11)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)) -∗ K ⟨⟩))
      ⊢ wp frame (wpE (defs₀ (F := F)) Variants.none c none) Set.univ
          (cc0_adaln_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  sl_unfold [cc0_adaln_bwd]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%d12, %f12, -, H12⟩, ⟨%d13, %f13, -, H13⟩, ⟨%d14, %f14, -, H14⟩, ⟨%d15, %f15, -, H15⟩, Hk⟩
  sl_exec! (disch := first | sl_exact h1 | sl_exact h2)
  sl_step
  have z2 : (![0, 0] : Fin 2 → Nat) = fun _ => 0 := funext fun a => by fin_cases a <;> rfl
  have z3 : (![0, 0, 0] : Fin 3 → Nat) = fun _ => 0 := funext fun a => by fin_cases a <;> rfl
  have z4 : (![0, 0, 0, 0] : Fin 4 → Nat) = fun _ => 0 := funext fun a => by fin_cases a <;> rfl
  have l0_0 : View.readAt (Elt F) arg2.view (Rect.unit (s := S1x128x1536) ![0, 0, 0] S1x32x1536.size inb_S1x128x1536_S1x32x1536_0_0_0).toLoadRect f0 = rowsCut 0 (by omega) I.x0 := by rw [← hf0]; rfl
  have l0_1 : View.readAt (Elt F) arg2.view (Rect.unit (s := S1x128x1536) ![0, 32, 0] S1x32x1536.size inb_S1x128x1536_S1x32x1536_0_32_0).toLoadRect f0 = rowsCut 32 (by omega) I.x0 := by rw [← hf0]; rfl
  have l0_2 : View.readAt (Elt F) arg2.view (Rect.unit (s := S1x128x1536) ![0, 64, 0] S1x32x1536.size inb_S1x128x1536_S1x32x1536_0_64_0).toLoadRect f0 = rowsCut 64 (by omega) I.x0 := by rw [← hf0]; rfl
  have l0_3 : View.readAt (Elt F) arg2.view (Rect.unit (s := S1x128x1536) ![0, 96, 0] S1x32x1536.size inb_S1x128x1536_S1x32x1536_0_96_0).toLoadRect f0 = rowsCut 96 (by omega) I.x0 := by rw [← hf0]; rfl
  have l2_0 : View.readAt (Elt F) arg4.view (Rect.unit (s := S1x128x1536) ![0, 0, 0] S1x32x1536.size inb_S1x128x1536_S1x32x1536_0_0_0).toLoadRect f2 = rowsCut 0 (by omega) I.x2 := by rw [← hf2]; rfl
  have l2_1 : View.readAt (Elt F) arg4.view (Rect.unit (s := S1x128x1536) ![0, 32, 0] S1x32x1536.size inb_S1x128x1536_S1x32x1536_0_32_0).toLoadRect f2 = rowsCut 32 (by omega) I.x2 := by rw [← hf2]; rfl
  have l2_2 : View.readAt (Elt F) arg4.view (Rect.unit (s := S1x128x1536) ![0, 64, 0] S1x32x1536.size inb_S1x128x1536_S1x32x1536_0_64_0).toLoadRect f2 = rowsCut 64 (by omega) I.x2 := by rw [← hf2]; rfl
  have l2_3 : View.readAt (Elt F) arg4.view (Rect.unit (s := S1x128x1536) ![0, 96, 0] S1x32x1536.size inb_S1x128x1536_S1x32x1536_0_96_0).toLoadRect f2 = rowsCut 96 (by omega) I.x2 := by rw [← hf2]; rfl
  have l3_0 : View.readAt (Elt F) arg5.view (Rect.unit (s := S1x128x1536) ![0, 0, 0] S1x32x1536.size inb_S1x128x1536_S1x32x1536_0_0_0).toLoadRect f3 = rowsCut 0 (by omega) I.x3 := by rw [← hf3]; rfl
  have l3_1 : View.readAt (Elt F) arg5.view (Rect.unit (s := S1x128x1536) ![0, 32, 0] S1x32x1536.size inb_S1x128x1536_S1x32x1536_0_32_0).toLoadRect f3 = rowsCut 32 (by omega) I.x3 := by rw [← hf3]; rfl
  have l3_2 : View.readAt (Elt F) arg5.view (Rect.unit (s := S1x128x1536) ![0, 64, 0] S1x32x1536.size inb_S1x128x1536_S1x32x1536_0_64_0).toLoadRect f3 = rowsCut 64 (by omega) I.x3 := by rw [← hf3]; rfl
  have l3_3 : View.readAt (Elt F) arg5.view (Rect.unit (s := S1x128x1536) ![0, 96, 0] S1x32x1536.size inb_S1x128x1536_S1x32x1536_0_96_0).toLoadRect f3 = rowsCut 96 (by omega) I.x3 := by rw [← hf3]; rfl
  have l5_0 : View.readAt (Elt F) arg7.view (Rect.unit (s := S1x128x1536) ![0, 0, 0] S1x32x1536.size inb_S1x128x1536_S1x32x1536_0_0_0).toLoadRect f5 = rowsCut 0 (by omega) I.x5 := by rw [← hf5]; rfl
  have l5_1 : View.readAt (Elt F) arg7.view (Rect.unit (s := S1x128x1536) ![0, 32, 0] S1x32x1536.size inb_S1x128x1536_S1x32x1536_0_32_0).toLoadRect f5 = rowsCut 32 (by omega) I.x5 := by rw [← hf5]; rfl
  have l5_2 : View.readAt (Elt F) arg7.view (Rect.unit (s := S1x128x1536) ![0, 64, 0] S1x32x1536.size inb_S1x128x1536_S1x32x1536_0_64_0).toLoadRect f5 = rowsCut 64 (by omega) I.x5 := by rw [← hf5]; rfl
  have l5_3 : View.readAt (Elt F) arg7.view (Rect.unit (s := S1x128x1536) ![0, 96, 0] S1x32x1536.size inb_S1x128x1536_S1x32x1536_0_96_0).toLoadRect f5 = rowsCut 96 (by omega) I.x5 := by rw [← hf5]; rfl
  have l1 : View.readAt (Elt F) arg3.view (Rect.unit (s := S16x4096) (k0_off1 i) S8x128.size (k0_off1_inb i)).toLoadRect f1 = grp i I.x1 := by rw [← hf1]; rfl
  have l4 : View.readAt (Elt F) arg6.view (Rect.unit (s := S16x4096) (k0_off1 i) S8x128.size (k0_off1_inb i)).toLoadRect f4 = grp i I.x4 := by rw [← hf4]; rfl
  have l6 : View.readAt (Elt F) arg8.view (Rect.unit (s := S16x4096) (k0_off1 i) S8x128.size (k0_off1_inb i)).toLoadRect f6 = grp i I.x6 := by rw [← hf6]; rfl
  have l11 : View.readAt (Elt F) arg13.view (Rect.unit (s := S16x4096) (k0_off1 i) S8x128.size (k0_off1_inb i)).toLoadRect f11 = grp i x11 := by rw [← hf11]; rfl
  have l7 : View.readAt (Elt F) arg9.view (Rect.unit (s := S16x1536) (k0_off2 i) S8x1536.size (k0_off2_inb i)).toLoadRect f7 = grpW i I.x7 := by rw [← hf7]; rfl
  have eS1 : k0_pay5 (k0_pay4 i (View.readAt (Elt F) arg3.view (Rect.unit (s := S16x4096) (k0_off1 i) S8x128.size (k0_off1_inb i)).toLoadRect f1)) = scol i I.x1 := by rw [l1]; rfl
  have hS1 : View.canon (kernelRunFirst.sl.H12_1 c i arg3 f1) = scol i I.x1 := (View.canon_unit_zero z2 _ _).trans eS1
  have eS4 : k0_pay8 (k0_pay6 (BitVec.ofNat 32 (i 0).val)) (View.readAt (Elt F) arg6.view (Rect.unit (s := S16x4096) (k0_off1 i) S8x128.size (k0_off1_inb i)).toLoadRect f4) k0_pay7 = scol i I.x4 := by rw [l4]; rfl
  have hS4 : View.canon (kernelRunFirst.sl.H13_1 c i arg6 f4) = scol i I.x4 := (View.canon_unit_zero z2 _ _).trans eS4
  have eS6 : k0_pay10 (k0_pay9 (BitVec.ofNat 32 (i 0).val)) (View.readAt (Elt F) arg8.view (Rect.unit (s := S16x4096) (k0_off1 i) S8x128.size (k0_off1_inb i)).toLoadRect f6) = scol i I.x6 := by rw [l6]; rfl
  have hS6 : View.canon (kernelRunFirst.sl.H14_1 c i arg8 f6) = scol i I.x6 := (View.canon_unit_zero z2 _ _).trans eS6
  have eW : (kernelRunFirst.sl.r_5 c i arg9 f7) = wrow i I := by
    change k0_pay12 (k0_pay11 (BitVec.ofNat 32 (i 0).val)) (View.readAt (Elt F) arg9.view (Rect.unit (s := S16x1536) (k0_off2 i) S8x1536.size (k0_off2_inb i)).toLoadRect f7) = _
    rw [l7]; rfl
  have c183 : (kernelRunFirst.sl.v183 c i arg3 arg14 f1) = colCut 0 (by omega) (scol i I.x1) :=
    (View.readCov_eq_canon' _ _ _).trans (by rw [hS1]; rfl)
  have c189 : (kernelRunFirst.sl.v189 c i arg6 arg15 f4) = colCut 0 (by omega) (scol i I.x4) :=
    (View.readCov_eq_canon' _ _ _).trans (by rw [hS4]; rfl)
  have c195 : (kernelRunFirst.sl.v195 c i arg8 arg16 f6) = colCut 0 (by omega) (scol i I.x6) :=
    (View.readCov_eq_canon' _ _ _).trans (by rw [hS6]; rfl)
  have c359 : (kernelRunFirst.sl.v359 c i arg3 arg14 f1) = colCut 32 (by omega) (scol i I.x1) :=
    (View.readCov_eq_canon' _ _ _).trans (by rw [hS1]; rfl)
  have c365 : (kernelRunFirst.sl.v365 c i arg6 arg15 f4) = colCut 32 (by omega) (scol i I.x4) :=
    (View.readCov_eq_canon' _ _ _).trans (by rw [hS4]; rfl)
  have c371 : (kernelRunFirst.sl.v371 c i arg8 arg16 f6) = colCut 32 (by omega) (scol i I.x6) :=
    (View.readCov_eq_canon' _ _ _).trans (by rw [hS6]; rfl)
  have c535 : (kernelRunFirst.sl.v535 c i arg3 arg14 f1) = colCut 64 (by omega) (scol i I.x1) :=
    (View.readCov_eq_canon' _ _ _).trans (by rw [hS1]; rfl)
  have c541 : (kernelRunFirst.sl.v541 c i arg6 arg15 f4) = colCut 64 (by omega) (scol i I.x4) :=
    (View.readCov_eq_canon' _ _ _).trans (by rw [hS4]; rfl)
  have c547 : (kernelRunFirst.sl.v547 c i arg8 arg16 f6) = colCut 64 (by omega) (scol i I.x6) :=
    (View.readCov_eq_canon' _ _ _).trans (by rw [hS6]; rfl)
  have c711 : (kernelRunFirst.sl.v711 c i arg3 arg14 f1) = colCut 96 (by omega) (scol i I.x1) :=
    (View.readCov_eq_canon' _ _ _).trans (by rw [hS1]; rfl)
  have c717 : (kernelRunFirst.sl.v717 c i arg6 arg15 f4) = colCut 96 (by omega) (scol i I.x4) :=
    (View.readCov_eq_canon' _ _ _).trans (by rw [hS4]; rfl)
  have c723 : (kernelRunFirst.sl.v723 c i arg8 arg16 f6) = colCut 96 (by omega) (scol i I.x6) :=
    (View.readCov_eq_canon' _ _ _).trans (by rw [hS6]; rfl)
  have eX0 : (kernelRunFirst.sl.r_6 c i arg2 arg3 arg14 f0 f1) = bX 0 (by omega) i I := by
    change k0_pay16 (View.readAt (Elt F) arg2.view (Rect.unit (s := S1x128x1536) ![0, 0, 0] S1x32x1536.size inb_S1x128x1536_S1x32x1536_0_0_0).toLoadRect f0) (kernelRunFirst.sl.v183 c i arg3 arg14 f1) = _
    rw [l0_0, c183]; rfl
  have eDY0 : (kernelRunFirst.sl.r_7 c i arg5 arg6 arg15 f3 f4) = bDY 0 (by omega) i I := by
    change k0_pay17 (View.readAt (Elt F) arg5.view (Rect.unit (s := S1x128x1536) ![0, 0, 0] S1x32x1536.size inb_S1x128x1536_S1x32x1536_0_0_0).toLoadRect f3) (kernelRunFirst.sl.v189 c i arg6 arg15 f4) = _
    rw [l3_0, c189]; rfl
  have eDH0 : (kernelRunFirst.sl.r_8 c i arg7 arg8 arg16 f5 f6) = bDH 0 (by omega) i I := by
    change k0_pay18 (View.readAt (Elt F) arg7.view (Rect.unit (s := S1x128x1536) ![0, 0, 0] S1x32x1536.size inb_S1x128x1536_S1x32x1536_0_0_0).toLoadRect f5) (kernelRunFirst.sl.v195 c i arg8 arg16 f6) = _
    rw [l5_0, c195]; rfl
  have eF0 : (kernelRunFirst.sl.r_9 c arg4 f2) = bF 0 (by omega) I := by
    change k0_pay19 (View.readAt (Elt F) arg4.view (Rect.unit (s := S1x128x1536) ![0, 0, 0] S1x32x1536.size inb_S1x128x1536_S1x32x1536_0_0_0).toLoadRect f2) = _
    rw [l2_0]; rfl
  have eShift0 : (kernelRunFirst.sl.r_10 c i arg7 arg8 arg16 f5 f6) = (stepShift 0 (by omega) i I k0_pay13) := by
    change k0_pay23 k0_pay13 (kernelRunFirst.sl.r_8 c i arg7 arg8 arg16 f5 f6) = _
    rw [eDH0]; rfl
  have eScal0 : (kernelRunFirst.sl.r_11 c i arg2 arg3 arg7 arg8 arg14 arg16 f0 f1 f5 f6) = (stepScal 0 (by omega) i I k0_pay14) := by
    change k0_pay24 k0_pay14 (kernelRunFirst.sl.r_6 c i arg2 arg3 arg14 f0 f1) (kernelRunFirst.sl.r_8 c i arg7 arg8 arg16 f5 f6) = _
    rw [eDH0, eX0]; rfl
  have eGate0 : (kernelRunFirst.sl.r_12 c i arg4 arg5 arg6 arg15 f2 f3 f4) = (stepGate 0 (by omega) i I k0_pay15) := by
    change k0_pay25 k0_pay15 (kernelRunFirst.sl.r_7 c i arg5 arg6 arg15 f3 f4) (kernelRunFirst.sl.r_9 c arg4 f2) = _
    rw [eDY0, eF0]; rfl
  have eD0 : (kernelRunFirst.sl.r_13 c i arg2 arg3 arg5 arg6 arg7 arg8 arg9 arg14 arg15 arg16 f0 f1 f3 f4 f5 f6 f7) = bDX 0 (by omega) i I := by
    change k0_pay26 (kernelRunFirst.sl.r_5 c i arg9 f7) (kernelRunFirst.sl.r_6 c i arg2 arg3 arg14 f0 f1) (kernelRunFirst.sl.r_7 c i arg5 arg6 arg15 f3 f4) (kernelRunFirst.sl.r_8 c i arg7 arg8 arg16 f5 f6) = _
    rw [eDH0, eDY0, eW, eX0]; rfl
  have eC0 : k0_pay35 (kernelRunFirst.sl.r_13 c i arg2 arg3 arg5 arg6 arg7 arg8 arg9 arg14 arg15 arg16 f0 f1 f3 f4 f5 f6 f7) (kernelRunFirst.sl.r_18 c i arg2 arg3 arg5 arg6 arg7 arg8 arg9 arg14 arg15 arg16 f0 f1 f3 f4 f5 f6 f7) 127#32 = bCode 0 (by omega) i I := by
    change k0_pay35 (kernelRunFirst.sl.r_13 c i arg2 arg3 arg5 arg6 arg7 arg8 arg9 arg14 arg15 arg16 f0 f1 f3 f4 f5 f6 f7) (k0_pay33 (k0_pay29 (k0_pay27 (kernelRunFirst.sl.r_5 c i arg9 f7) (kernelRunFirst.sl.r_6 c i arg2 arg3 arg14 f0 f1) (kernelRunFirst.sl.r_7 c i arg5 arg6 arg15 f3 f4) (kernelRunFirst.sl.r_8 c i arg7 arg8 arg16 f5 f6))) (k0_pay30 (k0_pay27 (kernelRunFirst.sl.r_5 c i arg9 f7) (kernelRunFirst.sl.r_6 c i arg2 arg3 arg14 f0 f1) (kernelRunFirst.sl.r_7 c i arg5 arg6 arg15 f3 f4) (kernelRunFirst.sl.r_8 c i arg7 arg8 arg16 f5 f6))) (k0_pay31 (k0_pay27 (kernelRunFirst.sl.r_5 c i arg9 f7) (kernelRunFirst.sl.r_6 c i arg2 arg3 arg14 f0 f1) (kernelRunFirst.sl.r_7 c i arg5 arg6 arg15 f3 f4) (kernelRunFirst.sl.r_8 c i arg7 arg8 arg16 f5 f6))) k0_pay32) 127#32 = _
    rw [eD0, eDH0, eDY0, eW, eX0]; rfl
  have eR0 : k0_pay36 (kernelRunFirst.sl.r_19 c i arg2 arg3 arg5 arg6 arg7 arg8 arg9 arg14 arg15 arg16 f0 f1 f3 f4 f5 f6 f7) = bScale 0 (by omega) i I := by
    change k0_pay36 (k0_pay34 (k0_pay29 (k0_pay27 (kernelRunFirst.sl.r_5 c i arg9 f7) (kernelRunFirst.sl.r_6 c i arg2 arg3 arg14 f0 f1) (kernelRunFirst.sl.r_7 c i arg5 arg6 arg15 f3 f4) (kernelRunFirst.sl.r_8 c i arg7 arg8 arg16 f5 f6))) (k0_pay30 (k0_pay27 (kernelRunFirst.sl.r_5 c i arg9 f7) (kernelRunFirst.sl.r_6 c i arg2 arg3 arg14 f0 f1) (kernelRunFirst.sl.r_7 c i arg5 arg6 arg15 f3 f4) (kernelRunFirst.sl.r_8 c i arg7 arg8 arg16 f5 f6))) (k0_pay31 (k0_pay27 (kernelRunFirst.sl.r_5 c i arg9 f7) (kernelRunFirst.sl.r_6 c i arg2 arg3 arg14 f0 f1) (kernelRunFirst.sl.r_7 c i arg5 arg6 arg15 f3 f4) (kernelRunFirst.sl.r_8 c i arg7 arg8 arg16 f5 f6))) k0_pay32) = _
    rw [eDH0, eDY0, eW, eX0]; rfl
  have eX1 : (kernelRunFirst.sl.r_20 c i arg2 arg3 arg14 f0 f1) = bX 32 (by omega) i I := by
    change k0_pay37 (View.readAt (Elt F) arg2.view (Rect.unit (s := S1x128x1536) ![0, 32, 0] S1x32x1536.size inb_S1x128x1536_S1x32x1536_0_32_0).toLoadRect f0) (kernelRunFirst.sl.v359 c i arg3 arg14 f1) = _
    rw [l0_1, c359]; rfl
  have eDY1 : (kernelRunFirst.sl.r_21 c i arg5 arg6 arg15 f3 f4) = bDY 32 (by omega) i I := by
    change k0_pay38 (View.readAt (Elt F) arg5.view (Rect.unit (s := S1x128x1536) ![0, 32, 0] S1x32x1536.size inb_S1x128x1536_S1x32x1536_0_32_0).toLoadRect f3) (kernelRunFirst.sl.v365 c i arg6 arg15 f4) = _
    rw [l3_1, c365]; rfl
  have eShift1 : (kernelRunFirst.sl.r_25 c i arg7 arg8 arg16 f5 f6) = (stepShift 32 (by omega) i I (stepShift 0 (by omega) i I k0_pay13)) := by
    change k0_pay44 (kernelRunFirst.sl.r_10 c i arg7 arg8 arg16 f5 f6) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6) = _
    rw [l5_1, c371, eShift0]; rfl
  have eScal1 : (kernelRunFirst.sl.r_26 c i arg2 arg3 arg7 arg8 arg14 arg16 f0 f1 f5 f6) = (stepScal 32 (by omega) i I (stepScal 0 (by omega) i I k0_pay14)) := by
    change k0_pay45 (kernelRunFirst.sl.r_11 c i arg2 arg3 arg7 arg8 arg14 arg16 f0 f1 f5 f6) (kernelRunFirst.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6) = _
    rw [l5_1, c371, eScal0, eX1]; rfl
  have eGate1 : (kernelRunFirst.sl.r_27 c i arg4 arg5 arg6 arg15 f2 f3 f4) = (stepGate 32 (by omega) i I (stepGate 0 (by omega) i I k0_pay15)) := by
    change k0_pay46 (kernelRunFirst.sl.r_12 c i arg4 arg5 arg6 arg15 f2 f3 f4) (kernelRunFirst.sl.r_21 c i arg5 arg6 arg15 f3 f4) (View.readAt (Elt F) arg4.view (Rect.unit (s := S1x128x1536) ![0, 32, 0] S1x32x1536.size inb_S1x128x1536_S1x32x1536_0_32_0).toLoadRect f2) = _
    rw [l2_1, eDY1, eGate0]; rfl
  have eD1 : (kernelRunFirst.sl.r_30 c i arg2 arg3 arg5 arg6 arg7 arg8 arg9 arg14 arg15 arg16 f0 f1 f3 f4 f5 f6 f7) = bDX 32 (by omega) i I := by
    change k0_pay51 (kernelRunFirst.sl.r_21 c i arg5 arg6 arg15 f3 f4) (k0_pay42 (kernelRunFirst.sl.r_20 c i arg2 arg3 arg14 f0 f1)) (k0_pay43 (kernelRunFirst.sl.r_20 c i arg2 arg3 arg14 f0 f1)) (k0_pay48 (kernelRunFirst.sl.r_5 c i arg9 f7) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) (k0_pay49 (kernelRunFirst.sl.r_5 c i arg9 f7) (kernelRunFirst.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) k0_pay50 = _
    rw [l5_1, c371, eDY1, eW, eX1]; rfl
  have eC1 : k0_pay61 (kernelRunFirst.sl.r_30 c i arg2 arg3 arg5 arg6 arg7 arg8 arg9 arg14 arg15 arg16 f0 f1 f3 f4 f5 f6 f7) (kernelRunFirst.sl.r_32 c i arg2 arg3 arg5 arg6 arg7 arg8 arg9 arg14 arg15 arg16 f0 f1 f3 f4 f5 f6 f7) (kernelRunFirst.sl.r_35 c i arg2 arg3 arg5 arg6 arg7 arg8 arg9 arg14 arg15 arg16 f0 f1 f3 f4 f5 f6 f7) k0_pay59 = bCode 32 (by omega) i I := by
    change k0_pay61 (kernelRunFirst.sl.r_30 c i arg2 arg3 arg5 arg6 arg7 arg8 arg9 arg14 arg15 arg16 f0 f1 f3 f4 f5 f6 f7) (k0_pay54 (kernelRunFirst.sl.r_21 c i arg5 arg6 arg15 f3 f4) (k0_pay42 (kernelRunFirst.sl.r_20 c i arg2 arg3 arg14 f0 f1)) (k0_pay43 (kernelRunFirst.sl.r_20 c i arg2 arg3 arg14 f0 f1)) (k0_pay48 (kernelRunFirst.sl.r_5 c i arg9 f7) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) (k0_pay49 (kernelRunFirst.sl.r_5 c i arg9 f7) (kernelRunFirst.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) k0_pay50) (k0_pay58 (k0_pay53 (kernelRunFirst.sl.r_21 c i arg5 arg6 arg15 f3 f4) (k0_pay42 (kernelRunFirst.sl.r_20 c i arg2 arg3 arg14 f0 f1)) (k0_pay43 (kernelRunFirst.sl.r_20 c i arg2 arg3 arg14 f0 f1)) (k0_pay48 (kernelRunFirst.sl.r_5 c i arg9 f7) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) (k0_pay49 (kernelRunFirst.sl.r_5 c i arg9 f7) (kernelRunFirst.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) k0_pay50) (k0_pay55 (kernelRunFirst.sl.r_21 c i arg5 arg6 arg15 f3 f4) (k0_pay42 (kernelRunFirst.sl.r_20 c i arg2 arg3 arg14 f0 f1)) (k0_pay43 (kernelRunFirst.sl.r_20 c i arg2 arg3 arg14 f0 f1)) (k0_pay48 (kernelRunFirst.sl.r_5 c i arg9 f7) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) (k0_pay49 (kernelRunFirst.sl.r_5 c i arg9 f7) (kernelRunFirst.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) k0_pay50) (k0_pay56 (kernelRunFirst.sl.r_21 c i arg5 arg6 arg15 f3 f4) (k0_pay42 (kernelRunFirst.sl.r_20 c i arg2 arg3 arg14 f0 f1)) (k0_pay43 (kernelRunFirst.sl.r_20 c i arg2 arg3 arg14 f0 f1)) (k0_pay48 (kernelRunFirst.sl.r_5 c i arg9 f7) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) (k0_pay49 (kernelRunFirst.sl.r_5 c i arg9 f7) (kernelRunFirst.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) k0_pay50) k0_pay57) k0_pay59 = _
    rw [l5_1, c371, eD1, eDY1, eW, eX1]; rfl
  have eR1 : k0_pay62 (kernelRunFirst.sl.r_32 c i arg2 arg3 arg5 arg6 arg7 arg8 arg9 arg14 arg15 arg16 f0 f1 f3 f4 f5 f6 f7) (kernelRunFirst.sl.r_35 c i arg2 arg3 arg5 arg6 arg7 arg8 arg9 arg14 arg15 arg16 f0 f1 f3 f4 f5 f6 f7) k0_pay59 = bScale 32 (by omega) i I := by
    change k0_pay62 (k0_pay54 (kernelRunFirst.sl.r_21 c i arg5 arg6 arg15 f3 f4) (k0_pay42 (kernelRunFirst.sl.r_20 c i arg2 arg3 arg14 f0 f1)) (k0_pay43 (kernelRunFirst.sl.r_20 c i arg2 arg3 arg14 f0 f1)) (k0_pay48 (kernelRunFirst.sl.r_5 c i arg9 f7) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) (k0_pay49 (kernelRunFirst.sl.r_5 c i arg9 f7) (kernelRunFirst.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) k0_pay50) (k0_pay58 (k0_pay53 (kernelRunFirst.sl.r_21 c i arg5 arg6 arg15 f3 f4) (k0_pay42 (kernelRunFirst.sl.r_20 c i arg2 arg3 arg14 f0 f1)) (k0_pay43 (kernelRunFirst.sl.r_20 c i arg2 arg3 arg14 f0 f1)) (k0_pay48 (kernelRunFirst.sl.r_5 c i arg9 f7) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) (k0_pay49 (kernelRunFirst.sl.r_5 c i arg9 f7) (kernelRunFirst.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) k0_pay50) (k0_pay55 (kernelRunFirst.sl.r_21 c i arg5 arg6 arg15 f3 f4) (k0_pay42 (kernelRunFirst.sl.r_20 c i arg2 arg3 arg14 f0 f1)) (k0_pay43 (kernelRunFirst.sl.r_20 c i arg2 arg3 arg14 f0 f1)) (k0_pay48 (kernelRunFirst.sl.r_5 c i arg9 f7) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) (k0_pay49 (kernelRunFirst.sl.r_5 c i arg9 f7) (kernelRunFirst.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) k0_pay50) (k0_pay56 (kernelRunFirst.sl.r_21 c i arg5 arg6 arg15 f3 f4) (k0_pay42 (kernelRunFirst.sl.r_20 c i arg2 arg3 arg14 f0 f1)) (k0_pay43 (kernelRunFirst.sl.r_20 c i arg2 arg3 arg14 f0 f1)) (k0_pay48 (kernelRunFirst.sl.r_5 c i arg9 f7) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) (k0_pay49 (kernelRunFirst.sl.r_5 c i arg9 f7) (kernelRunFirst.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunFirst.sl.v371 c i arg8 arg16 f6)) k0_pay50) k0_pay57) k0_pay59 = _
    rw [l5_1, c371, eDY1, eW, eX1]; rfl
  have eX2 : (kernelRunFirst.sl.r_36 c i arg2 arg3 arg14 f0 f1) = bX 64 (by omega) i I := by
    change k0_pay63 (View.readAt (Elt F) arg2.view (Rect.unit (s := S1x128x1536) ![0, 64, 0] S1x32x1536.size inb_S1x128x1536_S1x32x1536_0_64_0).toLoadRect f0) (kernelRunFirst.sl.v535 c i arg3 arg14 f1) = _
    rw [l0_2, c535]; rfl
  have eDY2 : (kernelRunFirst.sl.r_39 c i arg5 arg6 arg15 f3 f4) = bDY 64 (by omega) i I := by
    change k0_pay66 (k0_pay64 (View.readAt (Elt F) arg5.view (Rect.unit (s := S1x128x1536) ![0, 64, 0] S1x32x1536.size inb_S1x128x1536_S1x32x1536_0_64_0).toLoadRect f3)) (k0_pay65 (kernelRunFirst.sl.v541 c i arg6 arg15 f4)) = _
    rw [l3_2, c541]; rfl
  have eShift2 : (kernelRunFirst.sl.r_42 c i arg7 arg8 arg16 f5 f6) = (stepShift 64 (by omega) i I (stepShift 32 (by omega) i I (stepShift 0 (by omega) i I k0_pay13))) := by
    change k0_pay71 (kernelRunFirst.sl.r_25 c i arg7 arg8 arg16 f5 f6) (View.readAt (Elt F) arg7.view (Rect.unit (s := S1x128x1536) ![0, 64, 0] S1x32x1536.size inb_S1x128x1536_S1x32x1536_0_64_0).toLoadRect f5) (kernelRunFirst.sl.v547 c i arg8 arg16 f6) = _
    rw [l5_2, c547, eShift1]; rfl
  have eScal2 : (kernelRunFirst.sl.r_43 c i arg2 arg3 arg7 arg8 arg14 arg16 f0 f1 f5 f6) = (stepScal 64 (by omega) i I (stepScal 32 (by omega) i I (stepScal 0 (by omega) i I k0_pay14))) := by
    change k0_pay72 (kernelRunFirst.sl.r_26 c i arg2 arg3 arg7 arg8 arg14 arg16 f0 f1 f5 f6) (kernelRunFirst.sl.r_36 c i arg2 arg3 arg14 f0 f1) (View.readAt (Elt F) arg7.view (Rect.unit (s := S1x128x1536) ![0, 64, 0] S1x32x1536.size inb_S1x128x1536_S1x32x1536_0_64_0).toLoadRect f5) (kernelRunFirst.sl.v547 c i arg8 arg16 f6) = _
    rw [l5_2, c547, eScal1, eX2]; rfl
  have eGate2 : (kernelRunFirst.sl.r_44 c i arg4 arg5 arg6 arg15 f2 f3 f4) = (stepGate 64 (by omega) i I (stepGate 32 (by omega) i I (stepGate 0 (by omega) i I k0_pay15))) := by
    change k0_pay73 (kernelRunFirst.sl.r_27 c i arg4 arg5 arg6 arg15 f2 f3 f4) (k0_pay64 (View.readAt (Elt F) arg5.view (Rect.unit (s := S1x128x1536) ![0, 64, 0] S1x32x1536.size inb_S1x128x1536_S1x32x1536_0_64_0).toLoadRect f3)) (k0_pay65 (kernelRunFirst.sl.v541 c i arg6 arg15 f4)) (View.readAt (Elt F) arg4.view (Rect.unit (s := S1x128x1536) ![0, 64, 0] S1x32x1536.size inb_S1x128x1536_S1x32x1536_0_64_0).toLoadRect f2) = _
    rw [l2_2, l3_2, c541, eGate1]; rfl
  have eD2 : (kernelRunFirst.sl.r_47 c i arg2 arg3 arg5 arg6 arg7 arg8 arg9 arg14 arg15 arg16 f0 f1 f3 f4 f5 f6 f7) = bDX 64 (by omega) i I := by
    change k0_pay77 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76 = _
    rw [l5_2, c547, eDY2, eW, eX2]; rfl
  have eC2 : k0_pay86 (kernelRunFirst.sl.r_47 c i arg2 arg3 arg5 arg6 arg7 arg8 arg9 arg14 arg15 arg16 f0 f1 f3 f4 f5 f6 f7) (kernelRunFirst.sl.r_49 c i arg2 arg3 arg5 arg6 arg7 arg8 arg9 arg14 arg15 arg16 f0 f1 f3 f4 f5 f6 f7) (kernelRunFirst.sl.r_52 c i arg2 arg3 arg5 arg6 arg7 arg8 arg9 arg14 arg15 arg16 f0 f1 f3 f4 f5 f6 f7) (kernelRunFirst.sl.r_53 c i arg2 arg3 arg5 arg6 arg7 arg8 arg9 arg14 arg15 arg16 f0 f1 f3 f4 f5 f6 f7) = bCode 64 (by omega) i I := by
    change k0_pay86 (kernelRunFirst.sl.r_47 c i arg2 arg3 arg5 arg6 arg7 arg8 arg9 arg14 arg15 arg16 f0 f1 f3 f4 f5 f6 f7) (k0_pay80 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76) (k0_pay83 (k0_pay79 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76) (k0_pay81 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76) (k0_pay82 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76)) (k0_pay84 (k0_pay79 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76) (k0_pay81 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76) (k0_pay82 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76)) = _
    rw [l5_2, c547, eD2, eDY2, eW, eX2]; rfl
  have eR2 : k0_pay87 (kernelRunFirst.sl.r_49 c i arg2 arg3 arg5 arg6 arg7 arg8 arg9 arg14 arg15 arg16 f0 f1 f3 f4 f5 f6 f7) (kernelRunFirst.sl.r_52 c i arg2 arg3 arg5 arg6 arg7 arg8 arg9 arg14 arg15 arg16 f0 f1 f3 f4 f5 f6 f7) (kernelRunFirst.sl.r_53 c i arg2 arg3 arg5 arg6 arg7 arg8 arg9 arg14 arg15 arg16 f0 f1 f3 f4 f5 f6 f7) = bScale 64 (by omega) i I := by
    change k0_pay87 (k0_pay80 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76) (k0_pay83 (k0_pay79 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76) (k0_pay81 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76) (k0_pay82 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76)) (k0_pay84 (k0_pay79 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76) (k0_pay81 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76) (k0_pay82 (kernelRunFirst.sl.r_39 c i arg5 arg6 arg15 f3 f4) (k0_pay69 (kernelRunFirst.sl.r_36 c i arg2 arg3 arg14 f0 f1)) (k0_pay70 (kernelRunFirst.sl.r_36 c i arg2 arg3 arg14 f0 f1)) (k0_pay74 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) (k0_pay75 (kernelRunFirst.sl.r_5 c i arg9 f7) (View.readAt (Elt F) arg7.view (Rect.unit (s := S1x128x1536) ![0, 64, 0] S1x32x1536.size inb_S1x128x1536_S1x32x1536_0_64_0).toLoadRect f5) (kernelRunFirst.sl.v547 c i arg8 arg16 f6)) k0_pay76)) = _
    rw [l5_2, c547, eDY2, eW, eX2]; rfl
  have eX3 : (kernelRunFirst.sl.r_54 c i arg2 arg3 arg14 f0 f1) = bX 96 (by omega) i I := by
    change k0_pay88 (View.readAt (Elt F) arg2.view (Rect.unit (s := S1x128x1536) ![0, 96, 0] S1x32x1536.size inb_S1x128x1536_S1x32x1536_0_96_0).toLoadRect f0) (kernelRunFirst.sl.v711 c i arg3 arg14 f1) = _
    rw [l0_3, c711]; rfl
  have eDY3 : (kernelRunFirst.sl.r_55 c i arg5 arg6 arg15 f3 f4) = bDY 96 (by omega) i I := by
    change k0_pay89 (View.readAt (Elt F) arg5.view (Rect.unit (s := S1x128x1536) ![0, 96, 0] S1x32x1536.size inb_S1x128x1536_S1x32x1536_0_96_0).toLoadRect f3) (kernelRunFirst.sl.v717 c i arg6 arg15 f4) = _
    rw [l3_3, c717]; rfl
  have eDH3 : (kernelRunFirst.sl.r_56 c i arg7 arg8 arg16 f5 f6) = bDH 96 (by omega) i I := by
    change k0_pay90 (View.readAt (Elt F) arg7.view (Rect.unit (s := S1x128x1536) ![0, 96, 0] S1x32x1536.size inb_S1x128x1536_S1x32x1536_0_96_0).toLoadRect f5) (kernelRunFirst.sl.v723 c i arg8 arg16 f6) = _
    rw [l5_3, c723]; rfl
  have eShift3 : (kernelRunFirst.sl.r_59 c i arg7 arg8 arg16 f5 f6) = (stepShift 96 (by omega) i I (stepShift 64 (by omega) i I (stepShift 32 (by omega) i I (stepShift 0 (by omega) i I k0_pay13)))) := by
    change k0_pay94 (kernelRunFirst.sl.r_42 c i arg7 arg8 arg16 f5 f6) (View.readAt (Elt F) arg7.view (Rect.unit (s := S1x128x1536) ![0, 96, 0] S1x32x1536.size inb_S1x128x1536_S1x32x1536_0_96_0).toLoadRect f5) (kernelRunFirst.sl.v723 c i arg8 arg16 f6) = _
    rw [l5_3, c723, eShift2]; rfl
  have eScal3 : (kernelRunFirst.sl.r_60 c i arg2 arg3 arg7 arg8 arg14 arg16 f0 f1 f5 f6) = (stepScal 96 (by omega) i I (stepScal 64 (by omega) i I (stepScal 32 (by omega) i I (stepScal 0 (by omega) i I k0_pay14)))) := by
    change k0_pay95 (kernelRunFirst.sl.r_43 c i arg2 arg3 arg7 arg8 arg14 arg16 f0 f1 f5 f6) (kernelRunFirst.sl.r_54 c i arg2 arg3 arg14 f0 f1) (View.readAt (Elt F) arg7.view (Rect.unit (s := S1x128x1536) ![0, 96, 0] S1x32x1536.size inb_S1x128x1536_S1x32x1536_0_96_0).toLoadRect f5) (kernelRunFirst.sl.v723 c i arg8 arg16 f6) = _
    rw [l5_3, c723, eScal2, eX3]; rfl
  have eGate3 : (kernelRunFirst.sl.r_62 c i arg4 arg5 arg6 arg15 f2 f3 f4) = (stepGate 96 (by omega) i I (stepGate 64 (by omega) i I (stepGate 32 (by omega) i I (stepGate 0 (by omega) i I k0_pay15)))) := by
    change k0_pay97 (kernelRunFirst.sl.r_44 c i arg4 arg5 arg6 arg15 f2 f3 f4) (k0_pay96 (View.readAt (Elt F) arg5.view (Rect.unit (s := S1x128x1536) ![0, 96, 0] S1x32x1536.size inb_S1x128x1536_S1x32x1536_0_96_0).toLoadRect f3) (kernelRunFirst.sl.v717 c i arg6 arg15 f4) (View.readAt (Elt F) arg4.view (Rect.unit (s := S1x128x1536) ![0, 96, 0] S1x32x1536.size inb_S1x128x1536_S1x32x1536_0_96_0).toLoadRect f2)) = _
    rw [l2_3, l3_3, c717, eGate2]; rfl
  have eD3 : (kernelRunFirst.sl.r_63 c i arg2 arg3 arg5 arg6 arg7 arg8 arg9 arg14 arg15 arg16 f0 f1 f3 f4 f5 f6 f7) = bDX 96 (by omega) i I := by
    change k0_pay98 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1)) = _
    rw [eDH3, eDY3, eW, eX3]; rfl
  have eC3 : k0_pay109 (kernelRunFirst.sl.r_63 c i arg2 arg3 arg5 arg6 arg7 arg8 arg9 arg14 arg15 arg16 f0 f1 f3 f4 f5 f6 f7) (kernelRunFirst.sl.r_64 c i arg2 arg3 arg5 arg6 arg7 arg8 arg9 arg14 arg15 arg16 f0 f1 f3 f4 f5 f6 f7) (kernelRunFirst.sl.r_65 c i arg2 arg3 arg5 arg6 arg7 arg8 arg9 arg14 arg15 arg16 f0 f1 f3 f4 f5 f6 f7) (kernelRunFirst.sl.r_69 c i arg2 arg3 arg5 arg6 arg7 arg8 arg9 arg14 arg15 arg16 f0 f1 f3 f4 f5 f6 f7) (kernelRunFirst.sl.r_70 c i arg2 arg3 arg5 arg6 arg7 arg8 arg9 arg14 arg15 arg16 f0 f1 f3 f4 f5 f6 f7) (kernelRunFirst.sl.r_71 c i arg2 arg3 arg5 arg6 arg7 arg8 arg9 arg14 arg15 arg16 f0 f1 f3 f4 f5 f6 f7) = bCode 96 (by omega) i I := by
    change k0_pay109 (kernelRunFirst.sl.r_63 c i arg2 arg3 arg5 arg6 arg7 arg8 arg9 arg14 arg15 arg16 f0 f1 f3 f4 f5 f6 f7) (k0_pay100 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay101 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay105 (k0_pay100 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay102 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay103 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay104 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1)))) (k0_pay106 (k0_pay100 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay102 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay103 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay104 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1)))) (k0_pay107 (k0_pay100 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay102 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay103 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay104 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1)))) = _
    rw [eD3, eDH3, eDY3, eW, eX3]; rfl
  have eR3 : k0_pay110 (kernelRunFirst.sl.r_64 c i arg2 arg3 arg5 arg6 arg7 arg8 arg9 arg14 arg15 arg16 f0 f1 f3 f4 f5 f6 f7) (kernelRunFirst.sl.r_65 c i arg2 arg3 arg5 arg6 arg7 arg8 arg9 arg14 arg15 arg16 f0 f1 f3 f4 f5 f6 f7) (kernelRunFirst.sl.r_69 c i arg2 arg3 arg5 arg6 arg7 arg8 arg9 arg14 arg15 arg16 f0 f1 f3 f4 f5 f6 f7) (kernelRunFirst.sl.r_70 c i arg2 arg3 arg5 arg6 arg7 arg8 arg9 arg14 arg15 arg16 f0 f1 f3 f4 f5 f6 f7) (kernelRunFirst.sl.r_71 c i arg2 arg3 arg5 arg6 arg7 arg8 arg9 arg14 arg15 arg16 f0 f1 f3 f4 f5 f6 f7) = bScale 96 (by omega) i I := by
    change k0_pay110 (k0_pay100 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay101 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay105 (k0_pay100 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay102 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay103 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay104 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1)))) (k0_pay106 (k0_pay100 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay102 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay103 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay104 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1)))) (k0_pay107 (k0_pay100 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay102 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay103 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1))) (k0_pay104 (kernelRunFirst.sl.r_5 c i arg9 f7) (kernelRunFirst.sl.r_55 c i arg5 arg6 arg15 f3 f4) (kernelRunFirst.sl.r_56 c i arg7 arg8 arg16 f5 f6) (k0_pay92 (kernelRunFirst.sl.r_54 c i arg2 arg3 arg14 f0 f1)) (k0_pay93 (kernelRunFirst.sl.r_54 c i arg2 arg3 arg14 f0 f1)))) = _
    rw [eDH3, eDY3, eW, eX3]; rfl
  have eB : (kernelRunFirst.sl.r_72 c i arg2 arg3 arg4 arg5 arg6 arg7 arg8 arg14 arg15 arg16 f0 f1 f2 f3 f4 f5 f6) = bBlk i I := by
    change k0_pay112 (kernelRunFirst.sl.r_59 c i arg7 arg8 arg16 f5 f6) (kernelRunFirst.sl.r_60 c i arg2 arg3 arg7 arg8 arg14 arg16 f0 f1 f5 f6) (kernelRunFirst.sl.r_62 c i arg4 arg5 arg6 arg15 f2 f3 f4) = _
    rw [eGate3, eScal3, eShift3]; rfl
  have hC : View.canon (kernelRunFirst.sl.H10_4 c i arg2 arg3 arg5 arg6 arg7 arg8 arg9 arg14 arg15 arg16 f0 f1 f3 f4 f5 f6 f7) = bCodes i I := by
    unfold kernelRunFirst.sl.H10_4 bCodes
    rw [eC0, eC1, eC2, eC3]
  have hR : View.canon (kernelRunFirst.sl.H15_4 c i arg2 arg3 arg5 arg6 arg7 arg8 arg9 arg14 arg15 arg16 f0 f1 f3 f4 f5 f6 f7) = bScales i I := by
    unfold kernelRunFirst.sl.H15_4 bScales
    rw [eR0, eR1, eR2, eR3]
  have eRs : (kernelRunFirst.sl.v897 c i arg2 arg3 arg5 arg6 arg7 arg8 arg9 arg14 arg15 arg16 arg17 f0 f1 f3 f4 f5 f6 f7) = bScales i I :=
    (View.readCov_eq_canon' _ _ _).trans (by
      rw [hR]; exact View.ld_unit_zero (Val := Elt F) (S := S128x128) z2 _ (bScales i I))
  have eG : (kernelRunFirst.sl.v925 c i arg2 arg3 arg5 arg6 arg7 arg8 arg9 arg13 arg14 arg15 arg16 arg17 f0 f1 f3 f4 f5 f6 f7 f11) = bGroup i I (grp i x11) := by
    change k0_pay111 (BitVec.ofNat 32 (i 0).val) (iota .tc S8x128 32 [0] iota_S8x128_d0_w32) 8#32 0#32 (kernelRunFirst.sl.v897 c i arg2 arg3 arg5 arg6 arg7 arg8 arg9 arg14 arg15 arg16 arg17 f0 f1 f3 f4 f5 f6 f7) (View.readAt (Elt F) arg13.view (Rect.unit (s := S16x4096) (k0_off1 i) S8x128.size (k0_off1_inb i)).toLoadRect f11) = _
    rw [eRs, l11]; rfl
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact (View.read_writes_junk_eq_canon _ _).trans ((View.canon_unit_zero z3 _ _).trans (congrArg k0_pay2 eB))
  isplitl [H9]
  · iexists _; isplitr; swap; · iexact H9
    ipureintro; exact (View.read_writes_junk_eq_canon _ _).trans ((View.canon_unit_zero z4 _ _).trans (congrArg k0_pay1 eB))
  isplitl [H10]
  · iexists _; isplitr; swap; · iexact H10
    ipureintro; exact (View.read_writes_junk_eq_canon _ _).trans hC
  isplitl [H11]
  · iexists _; isplitr; swap; · iexact H11
    ipureintro; rw [eG, read_writes_one, hf11]; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

set_option maxHeartbeats 4000000 in
/-- The body at a later step: the block's column sums are added to the row totals `x8`. -/
theorem kernelRunLater (c : Dev nD) (i : grid0.Coords)
    (arg2 : Memref sig .tc .vmem S1x128x1536 .fp8e4m3) (harg2 : arg2.IsWhole)
    (arg3 : Memref sig .tc .vmem S16x4096 .f32) (harg3 : arg3.IsWhole)
    (arg4 : Memref sig .tc .vmem S1x128x1536 .bf16) (harg4 : arg4.IsWhole)
    (arg5 : Memref sig .tc .vmem S1x128x1536 .fp8e5m2) (harg5 : arg5.IsWhole)
    (arg6 : Memref sig .tc .vmem S16x4096 .f32) (harg6 : arg6.IsWhole)
    (arg7 : Memref sig .tc .vmem S1x128x1536 .fp8e5m2) (harg7 : arg7.IsWhole)
    (arg8 : Memref sig .tc .vmem S16x4096 .f32) (harg8 : arg8.IsWhole)
    (arg9 : Memref sig .tc .vmem S16x1536 .f32) (harg9 : arg9.IsWhole)
    (arg10 : Memref sig .tc .vmem S1x3x1536 .f32) (harg10 : arg10.IsWhole)
    (arg11 : Memref sig .tc .vmem S1x1x3x1536 .f32) (harg11 : arg11.IsWhole)
    (arg12 : Memref sig .tc .vmem S1x128x1536 .fp8e5m2) (harg12 : arg12.IsWhole)
    (arg13 : Memref sig .tc .vmem S16x4096 .f32) (harg13 : arg13.IsWhole)
    (arg14 : Memref sig .tc .vmem S128x128 .f32) (harg14 : arg14.IsWhole)
    (arg15 : Memref sig .tc .vmem S128x128 .f32) (harg15 : arg15.IsWhole)
    (arg16 : Memref sig .tc .vmem S128x128 .f32) (harg16 : arg16.IsWhole)
    (arg17 : Memref sig .tc .vmem S128x128 .f32) (harg17 : arg17.IsWhole)
    (I : Ins F) (x11 : Vec F S16x4096 .f32) (h1 : ¬ k0_cond1 i = 1#1) (h2 : k0_cond2 i = 1#1) (x8 : Vec F S1x3x1536 .f32) (K : PUnit → sProp 𝕄) :
    iprop(owns (c : Thread nD τ) arg2 fullShare I.x0
        ∗ owns (c : Thread nD τ) arg3 fullShare I.x1
        ∗ owns (c : Thread nD τ) arg4 fullShare I.x2
        ∗ owns (c : Thread nD τ) arg5 fullShare I.x3
        ∗ owns (c : Thread nD τ) arg6 fullShare I.x4
        ∗ owns (c : Thread nD τ) arg7 fullShare I.x5
        ∗ owns (c : Thread nD τ) arg8 fullShare I.x6
        ∗ owns (c : Thread nD τ) arg9 fullShare I.x7
        ∗ owns (c : Thread nD τ) arg10 fullShare x8
        ∗ (∃ d, owns (c : Thread nD τ) arg11 fullShare d)
        ∗ (∃ d, owns (c : Thread nD τ) arg12 fullShare d)
        ∗ owns (c : Thread nD τ) arg13 fullShare x11
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (iprop(owns (c : Thread nD τ) arg2 fullShare I.x0
        ∗ owns (c : Thread nD τ) arg3 fullShare I.x1
        ∗ owns (c : Thread nD τ) arg4 fullShare I.x2
        ∗ owns (c : Thread nD τ) arg5 fullShare I.x3
        ∗ owns (c : Thread nD τ) arg6 fullShare I.x4
        ∗ owns (c : Thread nD τ) arg7 fullShare I.x5
        ∗ owns (c : Thread nD τ) arg8 fullShare I.x6
        ∗ owns (c : Thread nD τ) arg9 fullShare I.x7
        ∗ owns (c : Thread nD τ) arg10 fullShare (k0_pay3 (bBlk i I) x8)
        ∗ owns (c : Thread nD τ) arg11 fullShare (k0_pay1 (bBlk i I))
        ∗ owns (c : Thread nD τ) arg12 fullShare (bCodes i I)
        ∗ owns (c : Thread nD τ) arg13 fullShare (bScaleWin i I x11)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)) -∗ K ⟨⟩))
      ⊢ wp frame (wpE (defs₀ (F := F)) Variants.none c none) Set.univ
          (cc0_adaln_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  sl_unfold [cc0_adaln_bwd]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, ⟨%d13, %f13, -, H13⟩, ⟨%d14, %f14, -, H14⟩, ⟨%d15, %f15, -, H15⟩, Hk⟩
  sl_exec! (disch := first | sl_exact h1 | sl_exact h2)
  sl_step
  have z2 : (![0, 0] : Fin 2 → Nat) = fun _ => 0 := funext fun a => by fin_cases a <;> rfl
  have z3 : (![0, 0, 0] : Fin 3 → Nat) = fun _ => 0 := funext fun a => by fin_cases a <;> rfl
  have z4 : (![0, 0, 0, 0] : Fin 4 → Nat) = fun _ => 0 := funext fun a => by fin_cases a <;> rfl
  have l0_0 : View.readAt (Elt F) arg2.view (Rect.unit (s := S1x128x1536) ![0, 0, 0] S1x32x1536.size inb_S1x128x1536_S1x32x1536_0_0_0).toLoadRect f0 = rowsCut 0 (by omega) I.x0 := by rw [← hf0]; rfl
  have l0_1 : View.readAt (Elt F) arg2.view (Rect.unit (s := S1x128x1536) ![0, 32, 0] S1x32x1536.size inb_S1x128x1536_S1x32x1536_0_32_0).toLoadRect f0 = rowsCut 32 (by omega) I.x0 := by rw [← hf0]; rfl
  have l0_2 : View.readAt (Elt F) arg2.view (Rect.unit (s := S1x128x1536) ![0, 64, 0] S1x32x1536.size inb_S1x128x1536_S1x32x1536_0_64_0).toLoadRect f0 = rowsCut 64 (by omega) I.x0 := by rw [← hf0]; rfl
  have l0_3 : View.readAt (Elt F) arg2.view (Rect.unit (s := S1x128x1536) ![0, 96, 0] S1x32x1536.size inb_S1x128x1536_S1x32x1536_0_96_0).toLoadRect f0 = rowsCut 96 (by omega) I.x0 := by rw [← hf0]; rfl
  have l2_0 : View.readAt (Elt F) arg4.view (Rect.unit (s := S1x128x1536) ![0, 0, 0] S1x32x1536.size inb_S1x128x1536_S1x32x1536_0_0_0).toLoadRect f2 = rowsCut 0 (by omega) I.x2 := by rw [← hf2]; rfl
  have l2_1 : View.readAt (Elt F) arg4.view (Rect.unit (s := S1x128x1536) ![0, 32, 0] S1x32x1536.size inb_S1x128x1536_S1x32x1536_0_32_0).toLoadRect f2 = rowsCut 32 (by omega) I.x2 := by rw [← hf2]; rfl
  have l2_2 : View.readAt (Elt F) arg4.view (Rect.unit (s := S1x128x1536) ![0, 64, 0] S1x32x1536.size inb_S1x128x1536_S1x32x1536_0_64_0).toLoadRect f2 = rowsCut 64 (by omega) I.x2 := by rw [← hf2]; rfl
  have l2_3 : View.readAt (Elt F) arg4.view (Rect.unit (s := S1x128x1536) ![0, 96, 0] S1x32x1536.size inb_S1x128x1536_S1x32x1536_0_96_0).toLoadRect f2 = rowsCut 96 (by omega) I.x2 := by rw [← hf2]; rfl
  have l3_0 : View.readAt (Elt F) arg5.view (Rect.unit (s := S1x128x1536) ![0, 0, 0] S1x32x1536.size inb_S1x128x1536_S1x32x1536_0_0_0).toLoadRect f3 = rowsCut 0 (by omega) I.x3 := by rw [← hf3]; rfl
  have l3_1 : View.readAt (Elt F) arg5.view (Rect.unit (s := S1x128x1536) ![0, 32, 0] S1x32x1536.size inb_S1x128x1536_S1x32x1536_0_32_0).toLoadRect f3 = rowsCut 32 (by omega) I.x3 := by rw [← hf3]; rfl
  have l3_2 : View.readAt (Elt F) arg5.view (Rect.unit (s := S1x128x1536) ![0, 64, 0] S1x32x1536.size inb_S1x128x1536_S1x32x1536_0_64_0).toLoadRect f3 = rowsCut 64 (by omega) I.x3 := by rw [← hf3]; rfl
  have l3_3 : View.readAt (Elt F) arg5.view (Rect.unit (s := S1x128x1536) ![0, 96, 0] S1x32x1536.size inb_S1x128x1536_S1x32x1536_0_96_0).toLoadRect f3 = rowsCut 96 (by omega) I.x3 := by rw [← hf3]; rfl
  have l5_0 : View.readAt (Elt F) arg7.view (Rect.unit (s := S1x128x1536) ![0, 0, 0] S1x32x1536.size inb_S1x128x1536_S1x32x1536_0_0_0).toLoadRect f5 = rowsCut 0 (by omega) I.x5 := by rw [← hf5]; rfl
  have l5_1 : View.readAt (Elt F) arg7.view (Rect.unit (s := S1x128x1536) ![0, 32, 0] S1x32x1536.size inb_S1x128x1536_S1x32x1536_0_32_0).toLoadRect f5 = rowsCut 32 (by omega) I.x5 := by rw [← hf5]; rfl
  have l5_2 : View.readAt (Elt F) arg7.view (Rect.unit (s := S1x128x1536) ![0, 64, 0] S1x32x1536.size inb_S1x128x1536_S1x32x1536_0_64_0).toLoadRect f5 = rowsCut 64 (by omega) I.x5 := by rw [← hf5]; rfl
  have l5_3 : View.readAt (Elt F) arg7.view (Rect.unit (s := S1x128x1536) ![0, 96, 0] S1x32x1536.size inb_S1x128x1536_S1x32x1536_0_96_0).toLoadRect f5 = rowsCut 96 (by omega) I.x5 := by rw [← hf5]; rfl
  have l1 : View.readAt (Elt F) arg3.view (Rect.unit (s := S16x4096) (k0_off1 i) S8x128.size (k0_off1_inb i)).toLoadRect f1 = grp i I.x1 := by rw [← hf1]; rfl
  have l4 : View.readAt (Elt F) arg6.view (Rect.unit (s := S16x4096) (k0_off1 i) S8x128.size (k0_off1_inb i)).toLoadRect f4 = grp i I.x4 := by rw [← hf4]; rfl
  have l6 : View.readAt (Elt F) arg8.view (Rect.unit (s := S16x4096) (k0_off1 i) S8x128.size (k0_off1_inb i)).toLoadRect f6 = grp i I.x6 := by rw [← hf6]; rfl
  have l11 : View.readAt (Elt F) arg13.view (Rect.unit (s := S16x4096) (k0_off1 i) S8x128.size (k0_off1_inb i)).toLoadRect f11 = grp i x11 := by rw [← hf11]; rfl
  have l7 : View.readAt (Elt F) arg9.view (Rect.unit (s := S16x1536) (k0_off2 i) S8x1536.size (k0_off2_inb i)).toLoadRect f7 = grpW i I.x7 := by rw [← hf7]; rfl
  have eS1 : k0_pay5 (k0_pay4 i (View.readAt (Elt F) arg3.view (Rect.unit (s := S16x4096) (k0_off1 i) S8x128.size (k0_off1_inb i)).toLoadRect f1)) = scol i I.x1 := by rw [l1]; rfl
  have hS1 : View.canon (kernelRunLater.sl.H12_1 c i arg3 f1) = scol i I.x1 := (View.canon_unit_zero z2 _ _).trans eS1
  have eS4 : k0_pay8 (k0_pay6 (BitVec.ofNat 32 (i 0).val)) (View.readAt (Elt F) arg6.view (Rect.unit (s := S16x4096) (k0_off1 i) S8x128.size (k0_off1_inb i)).toLoadRect f4) k0_pay7 = scol i I.x4 := by rw [l4]; rfl
  have hS4 : View.canon (kernelRunLater.sl.H13_1 c i arg6 f4) = scol i I.x4 := (View.canon_unit_zero z2 _ _).trans eS4
  have eS6 : k0_pay10 (k0_pay9 (BitVec.ofNat 32 (i 0).val)) (View.readAt (Elt F) arg8.view (Rect.unit (s := S16x4096) (k0_off1 i) S8x128.size (k0_off1_inb i)).toLoadRect f6) = scol i I.x6 := by rw [l6]; rfl
  have hS6 : View.canon (kernelRunLater.sl.H14_1 c i arg8 f6) = scol i I.x6 := (View.canon_unit_zero z2 _ _).trans eS6
  have eW : (kernelRunLater.sl.r_5 c i arg9 f7) = wrow i I := by
    change k0_pay12 (k0_pay11 (BitVec.ofNat 32 (i 0).val)) (View.readAt (Elt F) arg9.view (Rect.unit (s := S16x1536) (k0_off2 i) S8x1536.size (k0_off2_inb i)).toLoadRect f7) = _
    rw [l7]; rfl
  have c183 : (kernelRunLater.sl.v183 c i arg3 arg14 f1) = colCut 0 (by omega) (scol i I.x1) :=
    (View.readCov_eq_canon' _ _ _).trans (by rw [hS1]; rfl)
  have c189 : (kernelRunLater.sl.v189 c i arg6 arg15 f4) = colCut 0 (by omega) (scol i I.x4) :=
    (View.readCov_eq_canon' _ _ _).trans (by rw [hS4]; rfl)
  have c195 : (kernelRunLater.sl.v195 c i arg8 arg16 f6) = colCut 0 (by omega) (scol i I.x6) :=
    (View.readCov_eq_canon' _ _ _).trans (by rw [hS6]; rfl)
  have c359 : (kernelRunLater.sl.v359 c i arg3 arg14 f1) = colCut 32 (by omega) (scol i I.x1) :=
    (View.readCov_eq_canon' _ _ _).trans (by rw [hS1]; rfl)
  have c365 : (kernelRunLater.sl.v365 c i arg6 arg15 f4) = colCut 32 (by omega) (scol i I.x4) :=
    (View.readCov_eq_canon' _ _ _).trans (by rw [hS4]; rfl)
  have c371 : (kernelRunLater.sl.v371 c i arg8 arg16 f6) = colCut 32 (by omega) (scol i I.x6) :=
    (View.readCov_eq_canon' _ _ _).trans (by rw [hS6]; rfl)
  have c535 : (kernelRunLater.sl.v535 c i arg3 arg14 f1) = colCut 64 (by omega) (scol i I.x1) :=
    (View.readCov_eq_canon' _ _ _).trans (by rw [hS1]; rfl)
  have c541 : (kernelRunLater.sl.v541 c i arg6 arg15 f4) = colCut 64 (by omega) (scol i I.x4) :=
    (View.readCov_eq_canon' _ _ _).trans (by rw [hS4]; rfl)
  have c547 : (kernelRunLater.sl.v547 c i arg8 arg16 f6) = colCut 64 (by omega) (scol i I.x6) :=
    (View.readCov_eq_canon' _ _ _).trans (by rw [hS6]; rfl)
  have c711 : (kernelRunLater.sl.v711 c i arg3 arg14 f1) = colCut 96 (by omega) (scol i I.x1) :=
    (View.readCov_eq_canon' _ _ _).trans (by rw [hS1]; rfl)
  have c717 : (kernelRunLater.sl.v717 c i arg6 arg15 f4) = colCut 96 (by omega) (scol i I.x4) :=
    (View.readCov_eq_canon' _ _ _).trans (by rw [hS4]; rfl)
  have c723 : (kernelRunLater.sl.v723 c i arg8 arg16 f6) = colCut 96 (by omega) (scol i I.x6) :=
    (View.readCov_eq_canon' _ _ _).trans (by rw [hS6]; rfl)
  have eX0 : (kernelRunLater.sl.r_6 c i arg2 arg3 arg14 f0 f1) = bX 0 (by omega) i I := by
    change k0_pay16 (View.readAt (Elt F) arg2.view (Rect.unit (s := S1x128x1536) ![0, 0, 0] S1x32x1536.size inb_S1x128x1536_S1x32x1536_0_0_0).toLoadRect f0) (kernelRunLater.sl.v183 c i arg3 arg14 f1) = _
    rw [l0_0, c183]; rfl
  have eDY0 : (kernelRunLater.sl.r_7 c i arg5 arg6 arg15 f3 f4) = bDY 0 (by omega) i I := by
    change k0_pay17 (View.readAt (Elt F) arg5.view (Rect.unit (s := S1x128x1536) ![0, 0, 0] S1x32x1536.size inb_S1x128x1536_S1x32x1536_0_0_0).toLoadRect f3) (kernelRunLater.sl.v189 c i arg6 arg15 f4) = _
    rw [l3_0, c189]; rfl
  have eDH0 : (kernelRunLater.sl.r_8 c i arg7 arg8 arg16 f5 f6) = bDH 0 (by omega) i I := by
    change k0_pay18 (View.readAt (Elt F) arg7.view (Rect.unit (s := S1x128x1536) ![0, 0, 0] S1x32x1536.size inb_S1x128x1536_S1x32x1536_0_0_0).toLoadRect f5) (kernelRunLater.sl.v195 c i arg8 arg16 f6) = _
    rw [l5_0, c195]; rfl
  have eF0 : (kernelRunLater.sl.r_9 c arg4 f2) = bF 0 (by omega) I := by
    change k0_pay19 (View.readAt (Elt F) arg4.view (Rect.unit (s := S1x128x1536) ![0, 0, 0] S1x32x1536.size inb_S1x128x1536_S1x32x1536_0_0_0).toLoadRect f2) = _
    rw [l2_0]; rfl
  have eShift0 : (kernelRunLater.sl.r_10 c i arg7 arg8 arg16 f5 f6) = (stepShift 0 (by omega) i I k0_pay13) := by
    change k0_pay23 k0_pay13 (kernelRunLater.sl.r_8 c i arg7 arg8 arg16 f5 f6) = _
    rw [eDH0]; rfl
  have eScal0 : (kernelRunLater.sl.r_11 c i arg2 arg3 arg7 arg8 arg14 arg16 f0 f1 f5 f6) = (stepScal 0 (by omega) i I k0_pay14) := by
    change k0_pay24 k0_pay14 (kernelRunLater.sl.r_6 c i arg2 arg3 arg14 f0 f1) (kernelRunLater.sl.r_8 c i arg7 arg8 arg16 f5 f6) = _
    rw [eDH0, eX0]; rfl
  have eGate0 : (kernelRunLater.sl.r_12 c i arg4 arg5 arg6 arg15 f2 f3 f4) = (stepGate 0 (by omega) i I k0_pay15) := by
    change k0_pay25 k0_pay15 (kernelRunLater.sl.r_7 c i arg5 arg6 arg15 f3 f4) (kernelRunLater.sl.r_9 c arg4 f2) = _
    rw [eDY0, eF0]; rfl
  have eD0 : (kernelRunLater.sl.r_13 c i arg2 arg3 arg5 arg6 arg7 arg8 arg9 arg14 arg15 arg16 f0 f1 f3 f4 f5 f6 f7) = bDX 0 (by omega) i I := by
    change k0_pay26 (kernelRunLater.sl.r_5 c i arg9 f7) (kernelRunLater.sl.r_6 c i arg2 arg3 arg14 f0 f1) (kernelRunLater.sl.r_7 c i arg5 arg6 arg15 f3 f4) (kernelRunLater.sl.r_8 c i arg7 arg8 arg16 f5 f6) = _
    rw [eDH0, eDY0, eW, eX0]; rfl
  have eC0 : k0_pay35 (kernelRunLater.sl.r_13 c i arg2 arg3 arg5 arg6 arg7 arg8 arg9 arg14 arg15 arg16 f0 f1 f3 f4 f5 f6 f7) (kernelRunLater.sl.r_18 c i arg2 arg3 arg5 arg6 arg7 arg8 arg9 arg14 arg15 arg16 f0 f1 f3 f4 f5 f6 f7) 127#32 = bCode 0 (by omega) i I := by
    change k0_pay35 (kernelRunLater.sl.r_13 c i arg2 arg3 arg5 arg6 arg7 arg8 arg9 arg14 arg15 arg16 f0 f1 f3 f4 f5 f6 f7) (k0_pay33 (k0_pay29 (k0_pay27 (kernelRunLater.sl.r_5 c i arg9 f7) (kernelRunLater.sl.r_6 c i arg2 arg3 arg14 f0 f1) (kernelRunLater.sl.r_7 c i arg5 arg6 arg15 f3 f4) (kernelRunLater.sl.r_8 c i arg7 arg8 arg16 f5 f6))) (k0_pay30 (k0_pay27 (kernelRunLater.sl.r_5 c i arg9 f7) (kernelRunLater.sl.r_6 c i arg2 arg3 arg14 f0 f1) (kernelRunLater.sl.r_7 c i arg5 arg6 arg15 f3 f4) (kernelRunLater.sl.r_8 c i arg7 arg8 arg16 f5 f6))) (k0_pay31 (k0_pay27 (kernelRunLater.sl.r_5 c i arg9 f7) (kernelRunLater.sl.r_6 c i arg2 arg3 arg14 f0 f1) (kernelRunLater.sl.r_7 c i arg5 arg6 arg15 f3 f4) (kernelRunLater.sl.r_8 c i arg7 arg8 arg16 f5 f6))) k0_pay32) 127#32 = _
    rw [eD0, eDH0, eDY0, eW, eX0]; rfl
  have eR0 : k0_pay36 (kernelRunLater.sl.r_19 c i arg2 arg3 arg5 arg6 arg7 arg8 arg9 arg14 arg15 arg16 f0 f1 f3 f4 f5 f6 f7) = bScale 0 (by omega) i I := by
    change k0_pay36 (k0_pay34 (k0_pay29 (k0_pay27 (kernelRunLater.sl.r_5 c i arg9 f7) (kernelRunLater.sl.r_6 c i arg2 arg3 arg14 f0 f1) (kernelRunLater.sl.r_7 c i arg5 arg6 arg15 f3 f4) (kernelRunLater.sl.r_8 c i arg7 arg8 arg16 f5 f6))) (k0_pay30 (k0_pay27 (kernelRunLater.sl.r_5 c i arg9 f7) (kernelRunLater.sl.r_6 c i arg2 arg3 arg14 f0 f1) (kernelRunLater.sl.r_7 c i arg5 arg6 arg15 f3 f4) (kernelRunLater.sl.r_8 c i arg7 arg8 arg16 f5 f6))) (k0_pay31 (k0_pay27 (kernelRunLater.sl.r_5 c i arg9 f7) (kernelRunLater.sl.r_6 c i arg2 arg3 arg14 f0 f1) (kernelRunLater.sl.r_7 c i arg5 arg6 arg15 f3 f4) (kernelRunLater.sl.r_8 c i arg7 arg8 arg16 f5 f6))) k0_pay32) = _
    rw [eDH0, eDY0, eW, eX0]; rfl
  have eX1 : (kernelRunLater.sl.r_20 c i arg2 arg3 arg14 f0 f1) = bX 32 (by omega) i I := by
    change k0_pay37 (View.readAt (Elt F) arg2.view (Rect.unit (s := S1x128x1536) ![0, 32, 0] S1x32x1536.size inb_S1x128x1536_S1x32x1536_0_32_0).toLoadRect f0) (kernelRunLater.sl.v359 c i arg3 arg14 f1) = _
    rw [l0_1, c359]; rfl
  have eDY1 : (kernelRunLater.sl.r_21 c i arg5 arg6 arg15 f3 f4) = bDY 32 (by omega) i I := by
    change k0_pay38 (View.readAt (Elt F) arg5.view (Rect.unit (s := S1x128x1536) ![0, 32, 0] S1x32x1536.size inb_S1x128x1536_S1x32x1536_0_32_0).toLoadRect f3) (kernelRunLater.sl.v365 c i arg6 arg15 f4) = _
    rw [l3_1, c365]; rfl
  have eShift1 : (kernelRunLater.sl.r_25 c i arg7 arg8 arg16 f5 f6) = (stepShift 32 (by omega) i I (stepShift 0 (by omega) i I k0_pay13)) := by
    change k0_pay44 (kernelRunLater.sl.r_10 c i arg7 arg8 arg16 f5 f6) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6) = _
    rw [l5_1, c371, eShift0]; rfl
  have eScal1 : (kernelRunLater.sl.r_26 c i arg2 arg3 arg7 arg8 arg14 arg16 f0 f1 f5 f6) = (stepScal 32 (by omega) i I (stepScal 0 (by omega) i I k0_pay14)) := by
    change k0_pay45 (kernelRunLater.sl.r_11 c i arg2 arg3 arg7 arg8 arg14 arg16 f0 f1 f5 f6) (kernelRunLater.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6) = _
    rw [l5_1, c371, eScal0, eX1]; rfl
  have eGate1 : (kernelRunLater.sl.r_27 c i arg4 arg5 arg6 arg15 f2 f3 f4) = (stepGate 32 (by omega) i I (stepGate 0 (by omega) i I k0_pay15)) := by
    change k0_pay46 (kernelRunLater.sl.r_12 c i arg4 arg5 arg6 arg15 f2 f3 f4) (kernelRunLater.sl.r_21 c i arg5 arg6 arg15 f3 f4) (View.readAt (Elt F) arg4.view (Rect.unit (s := S1x128x1536) ![0, 32, 0] S1x32x1536.size inb_S1x128x1536_S1x32x1536_0_32_0).toLoadRect f2) = _
    rw [l2_1, eDY1, eGate0]; rfl
  have eD1 : (kernelRunLater.sl.r_30 c i arg2 arg3 arg5 arg6 arg7 arg8 arg9 arg14 arg15 arg16 f0 f1 f3 f4 f5 f6 f7) = bDX 32 (by omega) i I := by
    change k0_pay51 (kernelRunLater.sl.r_21 c i arg5 arg6 arg15 f3 f4) (k0_pay42 (kernelRunLater.sl.r_20 c i arg2 arg3 arg14 f0 f1)) (k0_pay43 (kernelRunLater.sl.r_20 c i arg2 arg3 arg14 f0 f1)) (k0_pay48 (kernelRunLater.sl.r_5 c i arg9 f7) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) (k0_pay49 (kernelRunLater.sl.r_5 c i arg9 f7) (kernelRunLater.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) k0_pay50 = _
    rw [l5_1, c371, eDY1, eW, eX1]; rfl
  have eC1 : k0_pay61 (kernelRunLater.sl.r_30 c i arg2 arg3 arg5 arg6 arg7 arg8 arg9 arg14 arg15 arg16 f0 f1 f3 f4 f5 f6 f7) (kernelRunLater.sl.r_32 c i arg2 arg3 arg5 arg6 arg7 arg8 arg9 arg14 arg15 arg16 f0 f1 f3 f4 f5 f6 f7) (kernelRunLater.sl.r_35 c i arg2 arg3 arg5 arg6 arg7 arg8 arg9 arg14 arg15 arg16 f0 f1 f3 f4 f5 f6 f7) k0_pay59 = bCode 32 (by omega) i I := by
    change k0_pay61 (kernelRunLater.sl.r_30 c i arg2 arg3 arg5 arg6 arg7 arg8 arg9 arg14 arg15 arg16 f0 f1 f3 f4 f5 f6 f7) (k0_pay54 (kernelRunLater.sl.r_21 c i arg5 arg6 arg15 f3 f4) (k0_pay42 (kernelRunLater.sl.r_20 c i arg2 arg3 arg14 f0 f1)) (k0_pay43 (kernelRunLater.sl.r_20 c i arg2 arg3 arg14 f0 f1)) (k0_pay48 (kernelRunLater.sl.r_5 c i arg9 f7) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) (k0_pay49 (kernelRunLater.sl.r_5 c i arg9 f7) (kernelRunLater.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) k0_pay50) (k0_pay58 (k0_pay53 (kernelRunLater.sl.r_21 c i arg5 arg6 arg15 f3 f4) (k0_pay42 (kernelRunLater.sl.r_20 c i arg2 arg3 arg14 f0 f1)) (k0_pay43 (kernelRunLater.sl.r_20 c i arg2 arg3 arg14 f0 f1)) (k0_pay48 (kernelRunLater.sl.r_5 c i arg9 f7) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) (k0_pay49 (kernelRunLater.sl.r_5 c i arg9 f7) (kernelRunLater.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) k0_pay50) (k0_pay55 (kernelRunLater.sl.r_21 c i arg5 arg6 arg15 f3 f4) (k0_pay42 (kernelRunLater.sl.r_20 c i arg2 arg3 arg14 f0 f1)) (k0_pay43 (kernelRunLater.sl.r_20 c i arg2 arg3 arg14 f0 f1)) (k0_pay48 (kernelRunLater.sl.r_5 c i arg9 f7) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) (k0_pay49 (kernelRunLater.sl.r_5 c i arg9 f7) (kernelRunLater.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) k0_pay50) (k0_pay56 (kernelRunLater.sl.r_21 c i arg5 arg6 arg15 f3 f4) (k0_pay42 (kernelRunLater.sl.r_20 c i arg2 arg3 arg14 f0 f1)) (k0_pay43 (kernelRunLater.sl.r_20 c i arg2 arg3 arg14 f0 f1)) (k0_pay48 (kernelRunLater.sl.r_5 c i arg9 f7) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) (k0_pay49 (kernelRunLater.sl.r_5 c i arg9 f7) (kernelRunLater.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) k0_pay50) k0_pay57) k0_pay59 = _
    rw [l5_1, c371, eD1, eDY1, eW, eX1]; rfl
  have eR1 : k0_pay62 (kernelRunLater.sl.r_32 c i arg2 arg3 arg5 arg6 arg7 arg8 arg9 arg14 arg15 arg16 f0 f1 f3 f4 f5 f6 f7) (kernelRunLater.sl.r_35 c i arg2 arg3 arg5 arg6 arg7 arg8 arg9 arg14 arg15 arg16 f0 f1 f3 f4 f5 f6 f7) k0_pay59 = bScale 32 (by omega) i I := by
    change k0_pay62 (k0_pay54 (kernelRunLater.sl.r_21 c i arg5 arg6 arg15 f3 f4) (k0_pay42 (kernelRunLater.sl.r_20 c i arg2 arg3 arg14 f0 f1)) (k0_pay43 (kernelRunLater.sl.r_20 c i arg2 arg3 arg14 f0 f1)) (k0_pay48 (kernelRunLater.sl.r_5 c i arg9 f7) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) (k0_pay49 (kernelRunLater.sl.r_5 c i arg9 f7) (kernelRunLater.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) k0_pay50) (k0_pay58 (k0_pay53 (kernelRunLater.sl.r_21 c i arg5 arg6 arg15 f3 f4) (k0_pay42 (kernelRunLater.sl.r_20 c i arg2 arg3 arg14 f0 f1)) (k0_pay43 (kernelRunLater.sl.r_20 c i arg2 arg3 arg14 f0 f1)) (k0_pay48 (kernelRunLater.sl.r_5 c i arg9 f7) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) (k0_pay49 (kernelRunLater.sl.r_5 c i arg9 f7) (kernelRunLater.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) k0_pay50) (k0_pay55 (kernelRunLater.sl.r_21 c i arg5 arg6 arg15 f3 f4) (k0_pay42 (kernelRunLater.sl.r_20 c i arg2 arg3 arg14 f0 f1)) (k0_pay43 (kernelRunLater.sl.r_20 c i arg2 arg3 arg14 f0 f1)) (k0_pay48 (kernelRunLater.sl.r_5 c i arg9 f7) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) (k0_pay49 (kernelRunLater.sl.r_5 c i arg9 f7) (kernelRunLater.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) k0_pay50) (k0_pay56 (kernelRunLater.sl.r_21 c i arg5 arg6 arg15 f3 f4) (k0_pay42 (kernelRunLater.sl.r_20 c i arg2 arg3 arg14 f0 f1)) (k0_pay43 (kernelRunLater.sl.r_20 c i arg2 arg3 arg14 f0 f1)) (k0_pay48 (kernelRunLater.sl.r_5 c i arg9 f7) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) (k0_pay49 (kernelRunLater.sl.r_5 c i arg9 f7) (kernelRunLater.sl.r_20 c i arg2 arg3 arg14 f0 f1) (k0_pay39 (View.readAt (Elt F) arg7.view (Rect.unit (s := S1x128x1536) ![0, 32, 0] S1x32x1536.size inb_S1x128x1536_S1x32x1536_0_32_0).toLoadRect f5)) (kernelRunLater.sl.v371 c i arg8 arg16 f6)) k0_pay50) k0_pay57) k0_pay59 = _
    rw [l5_1, c371, eDY1, eW, eX1]; rfl
  have eX2 : (kernelRunLater.sl.r_36 c i arg2 arg3 arg14 f0 f1) = bX 64 (by omega) i I := by
    change k0_pay63 (View.readAt (Elt F) arg2.view (Rect.unit (s := S1x128x1536) ![0, 64, 0] S1x32x1536.size inb_S1x128x1536_S1x32x1536_0_64_0).toLoadRect f0) (kernelRunLater.sl.v535 c i arg3 arg14 f1) = _
    rw [l0_2, c535]; rfl
  have eDY2 : (kernelRunLater.sl.r_39 c i arg5 arg6 arg15 f3 f4) = bDY 64 (by omega) i I := by
    change k0_pay66 (k0_pay64 (View.readAt (Elt F) arg5.view (Rect.unit (s := S1x128x1536) ![0, 64, 0] S1x32x1536.size inb_S1x128x1536_S1x32x1536_0_64_0).toLoadRect f3)) (k0_pay65 (kernelRunLater.sl.v541 c i arg6 arg15 f4)) = _
    rw [l3_2, c541]; rfl
  have eShift2 : (kernelRunLater.sl.r_42 c i arg7 arg8 arg16 f5 f6) = (stepShift 64 (by omega) i I (stepShift 32 (by omega) i I (stepShift 0 (by omega) i I k0_pay13))) := by
    change k0_pay71 (kernelRunLater.sl.r_25 c i arg7 arg8 arg16 f5 f6) (View.readAt (Elt F) arg7.view (Rect.unit (s := S1x128x1536) ![0, 64, 0] S1x32x1536.size inb_S1x128x1536_S1x32x1536_0_64_0).toLoadRect f5) (kernelRunLater.sl.v547 c i arg8 arg16 f6) = _
    rw [l5_2, c547, eShift1]; rfl
  have eScal2 : (kernelRunLater.sl.r_43 c i arg2 arg3 arg7 arg8 arg14 arg16 f0 f1 f5 f6) = (stepScal 64 (by omega) i I (stepScal 32 (by omega) i I (stepScal 0 (by omega) i I k0_pay14))) := by
    change k0_pay72 (kernelRunLater.sl.r_26 c i arg2 arg3 arg7 arg8 arg14 arg16 f0 f1 f5 f6) (kernelRunLater.sl.r_36 c i arg2 arg3 arg14 f0 f1) (View.readAt (Elt F) arg7.view (Rect.unit (s := S1x128x1536) ![0, 64, 0] S1x32x1536.size inb_S1x128x1536_S1x32x1536_0_64_0).toLoadRect f5) (kernelRunLater.sl.v547 c i arg8 arg16 f6) = _
    rw [l5_2, c547, eScal1, eX2]; rfl
  have eGate2 : (kernelRunLater.sl.r_44 c i arg4 arg5 arg6 arg15 f2 f3 f4) = (stepGate 64 (by omega) i I (stepGate 32 (by omega) i I (stepGate 0 (by omega) i I k0_pay15))) := by
    change k0_pay73 (kernelRunLater.sl.r_27 c i arg4 arg5 arg6 arg15 f2 f3 f4) (k0_pay64 (View.readAt (Elt F) arg5.view (Rect.unit (s := S1x128x1536) ![0, 64, 0] S1x32x1536.size inb_S1x128x1536_S1x32x1536_0_64_0).toLoadRect f3)) (k0_pay65 (kernelRunLater.sl.v541 c i arg6 arg15 f4)) (View.readAt (Elt F) arg4.view (Rect.unit (s := S1x128x1536) ![0, 64, 0] S1x32x1536.size inb_S1x128x1536_S1x32x1536_0_64_0).toLoadRect f2) = _
    rw [l2_2, l3_2, c541, eGate1]; rfl
  have eD2 : (kernelRunLater.sl.r_47 c i arg2 arg3 arg5 arg6 arg7 arg8 arg9 arg14 arg15 arg16 f0 f1 f3 f4 f5 f6 f7) = bDX 64 (by omega) i I := by
    change k0_pay77 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76 = _
    rw [l5_2, c547, eDY2, eW, eX2]; rfl
  have eC2 : k0_pay86 (kernelRunLater.sl.r_47 c i arg2 arg3 arg5 arg6 arg7 arg8 arg9 arg14 arg15 arg16 f0 f1 f3 f4 f5 f6 f7) (kernelRunLater.sl.r_49 c i arg2 arg3 arg5 arg6 arg7 arg8 arg9 arg14 arg15 arg16 f0 f1 f3 f4 f5 f6 f7) (kernelRunLater.sl.r_52 c i arg2 arg3 arg5 arg6 arg7 arg8 arg9 arg14 arg15 arg16 f0 f1 f3 f4 f5 f6 f7) (kernelRunLater.sl.r_53 c i arg2 arg3 arg5 arg6 arg7 arg8 arg9 arg14 arg15 arg16 f0 f1 f3 f4 f5 f6 f7) = bCode 64 (by omega) i I := by
    change k0_pay86 (kernelRunLater.sl.r_47 c i arg2 arg3 arg5 arg6 arg7 arg8 arg9 arg14 arg15 arg16 f0 f1 f3 f4 f5 f6 f7) (k0_pay80 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76) (k0_pay83 (k0_pay79 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76) (k0_pay81 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76) (k0_pay82 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76)) (k0_pay84 (k0_pay79 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76) (k0_pay81 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76) (k0_pay82 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76)) = _
    rw [l5_2, c547, eD2, eDY2, eW, eX2]; rfl
  have eR2 : k0_pay87 (kernelRunLater.sl.r_49 c i arg2 arg3 arg5 arg6 arg7 arg8 arg9 arg14 arg15 arg16 f0 f1 f3 f4 f5 f6 f7) (kernelRunLater.sl.r_52 c i arg2 arg3 arg5 arg6 arg7 arg8 arg9 arg14 arg15 arg16 f0 f1 f3 f4 f5 f6 f7) (kernelRunLater.sl.r_53 c i arg2 arg3 arg5 arg6 arg7 arg8 arg9 arg14 arg15 arg16 f0 f1 f3 f4 f5 f6 f7) = bScale 64 (by omega) i I := by
    change k0_pay87 (k0_pay80 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76) (k0_pay83 (k0_pay79 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76) (k0_pay81 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76) (k0_pay82 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76)) (k0_pay84 (k0_pay79 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76) (k0_pay81 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76) (k0_pay82 (kernelRunLater.sl.r_39 c i arg5 arg6 arg15 f3 f4) (k0_pay69 (kernelRunLater.sl.r_36 c i arg2 arg3 arg14 f0 f1)) (k0_pay70 (kernelRunLater.sl.r_36 c i arg2 arg3 arg14 f0 f1)) (k0_pay74 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) (k0_pay75 (kernelRunLater.sl.r_5 c i arg9 f7) (View.readAt (Elt F) arg7.view (Rect.unit (s := S1x128x1536) ![0, 64, 0] S1x32x1536.size inb_S1x128x1536_S1x32x1536_0_64_0).toLoadRect f5) (kernelRunLater.sl.v547 c i arg8 arg16 f6)) k0_pay76)) = _
    rw [l5_2, c547, eDY2, eW, eX2]; rfl
  have eX3 : (kernelRunLater.sl.r_54 c i arg2 arg3 arg14 f0 f1) = bX 96 (by omega) i I := by
    change k0_pay88 (View.readAt (Elt F) arg2.view (Rect.unit (s := S1x128x1536) ![0, 96, 0] S1x32x1536.size inb_S1x128x1536_S1x32x1536_0_96_0).toLoadRect f0) (kernelRunLater.sl.v711 c i arg3 arg14 f1) = _
    rw [l0_3, c711]; rfl
  have eDY3 : (kernelRunLater.sl.r_55 c i arg5 arg6 arg15 f3 f4) = bDY 96 (by omega) i I := by
    change k0_pay89 (View.readAt (Elt F) arg5.view (Rect.unit (s := S1x128x1536) ![0, 96, 0] S1x32x1536.size inb_S1x128x1536_S1x32x1536_0_96_0).toLoadRect f3) (kernelRunLater.sl.v717 c i arg6 arg15 f4) = _
    rw [l3_3, c717]; rfl
  have eDH3 : (kernelRunLater.sl.r_56 c i arg7 arg8 arg16 f5 f6) = bDH 96 (by omega) i I := by
    change k0_pay90 (View.readAt (Elt F) arg7.view (Rect.unit (s := S1x128x1536) ![0, 96, 0] S1x32x1536.size inb_S1x128x1536_S1x32x1536_0_96_0).toLoadRect f5) (kernelRunLater.sl.v723 c i arg8 arg16 f6) = _
    rw [l5_3, c723]; rfl
  have eShift3 : (kernelRunLater.sl.r_59 c i arg7 arg8 arg16 f5 f6) = (stepShift 96 (by omega) i I (stepShift 64 (by omega) i I (stepShift 32 (by omega) i I (stepShift 0 (by omega) i I k0_pay13)))) := by
    change k0_pay94 (kernelRunLater.sl.r_42 c i arg7 arg8 arg16 f5 f6) (View.readAt (Elt F) arg7.view (Rect.unit (s := S1x128x1536) ![0, 96, 0] S1x32x1536.size inb_S1x128x1536_S1x32x1536_0_96_0).toLoadRect f5) (kernelRunLater.sl.v723 c i arg8 arg16 f6) = _
    rw [l5_3, c723, eShift2]; rfl
  have eScal3 : (kernelRunLater.sl.r_60 c i arg2 arg3 arg7 arg8 arg14 arg16 f0 f1 f5 f6) = (stepScal 96 (by omega) i I (stepScal 64 (by omega) i I (stepScal 32 (by omega) i I (stepScal 0 (by omega) i I k0_pay14)))) := by
    change k0_pay95 (kernelRunLater.sl.r_43 c i arg2 arg3 arg7 arg8 arg14 arg16 f0 f1 f5 f6) (kernelRunLater.sl.r_54 c i arg2 arg3 arg14 f0 f1) (View.readAt (Elt F) arg7.view (Rect.unit (s := S1x128x1536) ![0, 96, 0] S1x32x1536.size inb_S1x128x1536_S1x32x1536_0_96_0).toLoadRect f5) (kernelRunLater.sl.v723 c i arg8 arg16 f6) = _
    rw [l5_3, c723, eScal2, eX3]; rfl
  have eGate3 : (kernelRunLater.sl.r_62 c i arg4 arg5 arg6 arg15 f2 f3 f4) = (stepGate 96 (by omega) i I (stepGate 64 (by omega) i I (stepGate 32 (by omega) i I (stepGate 0 (by omega) i I k0_pay15)))) := by
    change k0_pay97 (kernelRunLater.sl.r_44 c i arg4 arg5 arg6 arg15 f2 f3 f4) (k0_pay96 (View.readAt (Elt F) arg5.view (Rect.unit (s := S1x128x1536) ![0, 96, 0] S1x32x1536.size inb_S1x128x1536_S1x32x1536_0_96_0).toLoadRect f3) (kernelRunLater.sl.v717 c i arg6 arg15 f4) (View.readAt (Elt F) arg4.view (Rect.unit (s := S1x128x1536) ![0, 96, 0] S1x32x1536.size inb_S1x128x1536_S1x32x1536_0_96_0).toLoadRect f2)) = _
    rw [l2_3, l3_3, c717, eGate2]; rfl
  have eD3 : (kernelRunLater.sl.r_63 c i arg2 arg3 arg5 arg6 arg7 arg8 arg9 arg14 arg15 arg16 f0 f1 f3 f4 f5 f6 f7) = bDX 96 (by omega) i I := by
    change k0_pay98 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1)) = _
    rw [eDH3, eDY3, eW, eX3]; rfl
  have eC3 : k0_pay109 (kernelRunLater.sl.r_63 c i arg2 arg3 arg5 arg6 arg7 arg8 arg9 arg14 arg15 arg16 f0 f1 f3 f4 f5 f6 f7) (kernelRunLater.sl.r_64 c i arg2 arg3 arg5 arg6 arg7 arg8 arg9 arg14 arg15 arg16 f0 f1 f3 f4 f5 f6 f7) (kernelRunLater.sl.r_65 c i arg2 arg3 arg5 arg6 arg7 arg8 arg9 arg14 arg15 arg16 f0 f1 f3 f4 f5 f6 f7) (kernelRunLater.sl.r_69 c i arg2 arg3 arg5 arg6 arg7 arg8 arg9 arg14 arg15 arg16 f0 f1 f3 f4 f5 f6 f7) (kernelRunLater.sl.r_70 c i arg2 arg3 arg5 arg6 arg7 arg8 arg9 arg14 arg15 arg16 f0 f1 f3 f4 f5 f6 f7) (kernelRunLater.sl.r_71 c i arg2 arg3 arg5 arg6 arg7 arg8 arg9 arg14 arg15 arg16 f0 f1 f3 f4 f5 f6 f7) = bCode 96 (by omega) i I := by
    change k0_pay109 (kernelRunLater.sl.r_63 c i arg2 arg3 arg5 arg6 arg7 arg8 arg9 arg14 arg15 arg16 f0 f1 f3 f4 f5 f6 f7) (k0_pay100 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay101 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay105 (k0_pay100 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay102 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay103 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay104 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1)))) (k0_pay106 (k0_pay100 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay102 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay103 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay104 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1)))) (k0_pay107 (k0_pay100 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay102 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay103 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay104 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1)))) = _
    rw [eD3, eDH3, eDY3, eW, eX3]; rfl
  have eR3 : k0_pay110 (kernelRunLater.sl.r_64 c i arg2 arg3 arg5 arg6 arg7 arg8 arg9 arg14 arg15 arg16 f0 f1 f3 f4 f5 f6 f7) (kernelRunLater.sl.r_65 c i arg2 arg3 arg5 arg6 arg7 arg8 arg9 arg14 arg15 arg16 f0 f1 f3 f4 f5 f6 f7) (kernelRunLater.sl.r_69 c i arg2 arg3 arg5 arg6 arg7 arg8 arg9 arg14 arg15 arg16 f0 f1 f3 f4 f5 f6 f7) (kernelRunLater.sl.r_70 c i arg2 arg3 arg5 arg6 arg7 arg8 arg9 arg14 arg15 arg16 f0 f1 f3 f4 f5 f6 f7) (kernelRunLater.sl.r_71 c i arg2 arg3 arg5 arg6 arg7 arg8 arg9 arg14 arg15 arg16 f0 f1 f3 f4 f5 f6 f7) = bScale 96 (by omega) i I := by
    change k0_pay110 (k0_pay100 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay101 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay105 (k0_pay100 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay102 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay103 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay104 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1)))) (k0_pay106 (k0_pay100 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay102 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay103 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay104 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1)))) (k0_pay107 (k0_pay100 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay102 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay103 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1))) (k0_pay104 (kernelRunLater.sl.r_5 c i arg9 f7) (kernelRunLater.sl.r_55 c i arg5 arg6 arg15 f3 f4) (kernelRunLater.sl.r_56 c i arg7 arg8 arg16 f5 f6) (k0_pay92 (kernelRunLater.sl.r_54 c i arg2 arg3 arg14 f0 f1)) (k0_pay93 (kernelRunLater.sl.r_54 c i arg2 arg3 arg14 f0 f1)))) = _
    rw [eDH3, eDY3, eW, eX3]; rfl
  have eB : (kernelRunLater.sl.r_72 c i arg2 arg3 arg4 arg5 arg6 arg7 arg8 arg14 arg15 arg16 f0 f1 f2 f3 f4 f5 f6) = bBlk i I := by
    change k0_pay112 (kernelRunLater.sl.r_59 c i arg7 arg8 arg16 f5 f6) (kernelRunLater.sl.r_60 c i arg2 arg3 arg7 arg8 arg14 arg16 f0 f1 f5 f6) (kernelRunLater.sl.r_62 c i arg4 arg5 arg6 arg15 f2 f3 f4) = _
    rw [eGate3, eScal3, eShift3]; rfl
  have hC : View.canon (kernelRunLater.sl.H10_4 c i arg2 arg3 arg5 arg6 arg7 arg8 arg9 arg14 arg15 arg16 f0 f1 f3 f4 f5 f6 f7) = bCodes i I := by
    unfold kernelRunLater.sl.H10_4 bCodes
    rw [eC0, eC1, eC2, eC3]
  have hR : View.canon (kernelRunLater.sl.H15_4 c i arg2 arg3 arg5 arg6 arg7 arg8 arg9 arg14 arg15 arg16 f0 f1 f3 f4 f5 f6 f7) = bScales i I := by
    unfold kernelRunLater.sl.H15_4 bScales
    rw [eR0, eR1, eR2, eR3]
  have eRs : (kernelRunLater.sl.v897 c i arg2 arg3 arg5 arg6 arg7 arg8 arg9 arg14 arg15 arg16 arg17 f0 f1 f3 f4 f5 f6 f7) = bScales i I :=
    (View.readCov_eq_canon' _ _ _).trans (by
      rw [hR]; exact View.ld_unit_zero (Val := Elt F) (S := S128x128) z2 _ (bScales i I))
  have eG : (kernelRunLater.sl.v925 c i arg2 arg3 arg5 arg6 arg7 arg8 arg9 arg13 arg14 arg15 arg16 arg17 f0 f1 f3 f4 f5 f6 f7 f11) = bGroup i I (grp i x11) := by
    change k0_pay111 (BitVec.ofNat 32 (i 0).val) (iota .tc S8x128 32 [0] iota_S8x128_d0_w32) 8#32 0#32 (kernelRunLater.sl.v897 c i arg2 arg3 arg5 arg6 arg7 arg8 arg9 arg14 arg15 arg16 arg17 f0 f1 f3 f4 f5 f6 f7) (View.readAt (Elt F) arg13.view (Rect.unit (s := S16x4096) (k0_off1 i) S8x128.size (k0_off1_inb i)).toLoadRect f11) = _
    rw [eRs, l11]; rfl
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; refine (View.read_writes_junk_eq_canon _ _).trans ((View.canon_unit_zero z3 _ _).trans ?_)
    rw [eB, View.readAt_eq_ld, hf8, View.ld_unit_zero z3]
  isplitl [H9]
  · iexists _; isplitr; swap; · iexact H9
    ipureintro; exact (View.read_writes_junk_eq_canon _ _).trans ((View.canon_unit_zero z4 _ _).trans (congrArg k0_pay1 eB))
  isplitl [H10]
  · iexists _; isplitr; swap; · iexact H10
    ipureintro; exact (View.read_writes_junk_eq_canon _ _).trans hC
  isplitl [H11]
  · iexists _; isplitr; swap; · iexact H11
    ipureintro; rw [eG, read_writes_one, hf11]; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.KernelIdeal.Hand
end
-- ==== Proof.ScaleWin.lean ====
/- The grid's points in numbers (512 points, batch row `t / 32`, step `t % 32`), and the scale output's window after one
   point, element by element. -/
module

public import proofs.«01_k».proof.Proof.Block
public import Idealize.ShloMosaic.Lib.ValueIdx
public import Idealize.ShloMosaic.Lib.ValueLayout
public import Idealize.ShloMosaic.Lib.ValueLayoutCasts

@[expose] public section

set_option maxRecDepth 16384

noncomputable section

namespace Cert.KernelIdeal.Hand

open Cert.KernelIdeal.Gen
open Idealize.ShloMosaic Idealize.ShloMosaic.TcCoe Idealize.ShloMosaic.ValueIdx

variable {F : FTy → Type} [FloatOps F]

theorem coords_val : ∀ t : Fin grid0.N, (grid0.coords t 0).val = t.val / 32 ∧ (grid0.coords t 1).val = t.val % 32 := by decide +kernel
theorem cond1_iff : ∀ t : Fin grid0.N, k0_cond1 (grid0.coords t) = 1#1 ↔ t.val % 32 = 0 := by decide +kernel
theorem cond2_iff : ∀ t : Fin grid0.N, k0_cond2 (grid0.coords t) = 1#1 ↔ t.val % 32 ≠ 0 := by decide +kernel
theorem off1_eq : ∀ t : Fin grid0.N, k0_off1 (grid0.coords t) = ![8 * (t.val / 256), 128 * (t.val % 32)] := by decide +kernel
theorem off2_eq : ∀ t : Fin grid0.N, k0_off2 (grid0.coords t) = ![8 * (t.val / 256), 0] := by decide +kernel

/-- The batch row's place in its group of eight, as the program computes it (a floored remainder by 8). -/
def rem8 (a : BitVec 32) : BitVec 32 :=
  let d : BitVec 32 := Scalar.select (Scalar.cmpi .eq 8#32 0#32) 1#32 8#32
  let q : BitVec 32 := Scalar.remsi a d
  Scalar.select (Scalar.andi (Scalar.xori (Scalar.cmpi .slt q 0#32) (Scalar.cmpi .slt d 0#32)) (Scalar.cmpi .ne q 0#32)) (Scalar.addi q d) q

theorem rem8_mask : ∀ (b : Fin 16) (r : Fin 8),
    Scalar.cmpi .eq (BitVec.ofNat 32 (0 * 8 + r.val)) (rem8 (BitVec.ofNat 32 b.val)) = if r.val = b.val % 8 then 1#1 else 0#1 := by decide +kernel

/-- An element of a group is written exactly in the batch row's sublane. -/
theorem bGroup_apply (t : Fin grid0.N) (I : Ins F) (old : Vec F S8x128 .f32) (r : Fin 8) (l : Fin 128) :
    bGroup (grid0.coords t) I old (ix2 r l)
      = if r.val = (t.val / 32) % 8 then bScales (grid0.coords t) I (ix2 l 0) else old (ix2 r l) := by
  have hb : t.val / 32 < 16 := by have : t.val < 512 := t.isLt; omega
  have e1 : bGroup (grid0.coords t) I old (ix2 r l)
      = Scalar.select (Scalar.cmpi .eq (BitVec.ofNat 32 (0 * 8 + r.val)) (rem8 (BitVec.ofNat 32 (grid0.coords t 0).val)))
          (broadcastTo S8x128 (shapeCast S1x128 (extractStridedSlice S1x128 ![0, 0]
            (transpose S128x128 [1, 0] (bScales (grid0.coords t) I) transposes_S128x128_p1_0_S128x128) slices_S128x128_o0_0_S1x128)
            shapeCasts_S1x128_S1x128) broadcasts_S1x128_S8x128 (ix2 r l))
          (shapeCast S8x128 old shapeCasts_S8x128_S8x128 (ix2 r l)) := rfl
  rw [e1, (coords_val t).1]
  have hm := rem8_mask ⟨t.val / 32, hb⟩ r
  simp only at hm
  rw [hm]
  have e2 : shapeCast S8x128 old shapeCasts_S8x128_S8x128 (ix2 r l) = old (ix2 r l) := shapeCast_apply _ _ _ _ rfl
  have e3 : broadcastTo S8x128 (shapeCast S1x128 (extractStridedSlice S1x128 ![0, 0]
            (transpose S128x128 [1, 0] (bScales (grid0.coords t) I) transposes_S128x128_p1_0_S128x128) slices_S128x128_o0_0_S1x128)
            shapeCasts_S1x128_S1x128) broadcasts_S1x128_S8x128 (ix2 r l) = bScales (grid0.coords t) I (ix2 l 0) := by
    rw [broadcastTo_1b_ab_apply, shapeCast_apply _ _ _ (ix2 0 l : S1x128.Idx) rfl, extractStridedSlice_apply _ _ _ _ (ix2 0 l : S128x128.Idx), transpose_ix2_apply]
    intro a
    match a with
    | 0 => rfl
    | 1 => show l.val = 0 + l.val; omega
  rw [e2, e3]
  split <;> rfl

/-- One point writes its batch row's 128 scales of its step and leaves the rest of the window. -/
theorem bScaleWin_apply (t : Fin grid0.N) (I : Ins F) (old : Vec F S16x4096 .f32) (r : Fin 16) (q : Fin 4096) :
    bScaleWin (grid0.coords t) I old (ix2 r q)
      = if r.val = t.val / 32 ∧ q.val / 128 = t.val % 32 then
          bScales (grid0.coords t) I (ix2 ⟨q.val % 128, Nat.mod_lt _ (by decide)⟩ 0) else old (ix2 r q) := by
  have hN : t.val < 512 := t.isLt
  have hr := r.isLt
  have hq := q.isLt
  unfold bScaleWin
  by_cases hm : r.val / 8 = t.val / 256 ∧ q.val / 128 = t.val % 32
  · have e : ix2 r q = (Rect.unit (s := S16x4096) (k0_off1 (grid0.coords t)) S8x128.size (k0_off1_inb (grid0.coords t))).emb
        (ix2 ⟨r.val % 8, Nat.mod_lt _ (by decide)⟩ ⟨q.val % 128, Nat.mod_lt _ (by decide)⟩ : S8x128.Idx) := by
      funext a
      match a with
      | 0 =>
        apply Fin.ext
        show r.val = k0_off1 (grid0.coords t) 0 + 1 * (r.val % 8)
        rw [off1_eq]; show r.val = 8 * (t.val / 256) + _; omega
      | 1 =>
        apply Fin.ext
        show q.val = k0_off1 (grid0.coords t) 1 + 1 * (q.val % 128)
        rw [off1_eq]; show q.val = 128 * (t.val % 32) + _; omega
    have e4 : grp (grid0.coords t) old (ix2 ⟨r.val % 8, Nat.mod_lt _ (by decide)⟩ ⟨q.val % 128, Nat.mod_lt _ (by decide)⟩ : S8x128.Idx) = old (ix2 r q) := by
      rw [e]; rfl
    rw [e, Rect.overlay_emb, bGroup_apply, ← e, e4]
    by_cases h1 : r.val = t.val / 32
    · rw [if_pos (show r.val % 8 = _ by omega), if_pos ⟨h1, hm.2⟩]
    · rw [if_neg (show ¬ r.val % 8 = _ by omega), if_neg (fun h => h1 h.1)]
  · rw [if_neg (by rintro ⟨h1, h2⟩; exact hm ⟨by omega, h2⟩), Rect.overlay_of_not_mem]
    intro hmem
    obtain ⟨x, hx⟩ := (Rect.unit (s := S16x4096) (k0_off1 (grid0.coords t)) S8x128.size (k0_off1_inb (grid0.coords t))).exists_idx_of_mem hmem
    apply hm
    have o0 : k0_off1 (grid0.coords t) 0 = 8 * (t.val / 256) := congrFun (off1_eq t) 0
    have o1 : k0_off1 (grid0.coords t) 1 = 128 * (t.val % 32) := congrFun (off1_eq t) 1
    have b0 : (x 0).val < 8 := (x 0).isLt
    have b1 : (x 1).val < 128 := (x 1).isLt
    have h0 : k0_off1 (grid0.coords t) 0 + 1 * (x 0).val = r.val := congrArg Fin.val (congrFun hx 0)
    have h1 : k0_off1 (grid0.coords t) 1 + 1 * (x 1).val = q.val := congrArg Fin.val (congrFun hx 1)
    omega

end Cert.KernelIdeal.Hand

end
-- ==== Proof.KernelLaunch.lean ====
/- The launch of the idealized kernel, with what it writes: the row totals after the last step of a batch row, every
   point's block of column sums and of codes, and the scale output, filled one group of 128 per point and written back
   once at the end. The scale output's window is partly unwritten until the last point, so the four output windows are
   held to a predicate on their contents (`Rl`) rather than to named contents. -/
module

public import proofs.«01_k».proof.Proof.KernelRun
public import proofs.«01_k».proof.Proof.ScaleWin
public import Idealize.ShloMosaic.Lib.Pipeline.DatRel
public import Idealize.ShloMosaic.Lib.Pipeline.ArrRel

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The input windows' contents at point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t⟩

/-- The column sums of point `t`'s block. -/
def blkAt (c : Dev nD) (t : Fin cfg0.N) : FVec F S3x1536 .f32 := bBlk (grid0.coords t) (insAt m c t)

/-- The row totals after point `n`: set at a step with number zero, added to at the others. -/
def accAt (c : Dev nD) : (n : Nat) → n < cfg0.N → Vec F S1x3x1536 .f32
  | 0, h => k0_pay2 (blkAt m c ⟨0, h⟩)
  | n + 1, h => if (n + 1) % 32 = 0 then k0_pay2 (blkAt m c ⟨n + 1, h⟩) else k0_pay3 (blkAt m c ⟨n + 1, h⟩) (accAt c n (by omega))

theorem accAt_first (c : Dev nD) (t : Fin cfg0.N) (h : t.val % 32 = 0) : accAt m c t.val t.isLt = k0_pay2 (blkAt m c t) := by
  obtain ⟨n, hn⟩ := t
  cases n with
  | zero => rfl
  | succ n => exact if_pos h
theorem accAt_later (c : Dev nD) (t : Fin cfg0.N) (h : t.val % 32 ≠ 0) :
    accAt m c t.val t.isLt = k0_pay3 (blkAt m c t) (accAt m c (t.val - 1) (Nat.lt_of_le_of_lt (Nat.sub_le _ _) t.isLt)) := by
  obtain ⟨n, hn⟩ := t
  cases n with
  | zero => exact absurd (Nat.zero_mod 32) h
  | succ n => exact if_neg h

/-- The scales of point `t`'s 128 rows. -/
def scalesAt (c : Dev nD) (t : Fin cfg0.N) : Vec F S128x128 .f32 := bScales (grid0.coords t) (insAt m c t)

/-- The scale output's window after point `t`: every group of a point up to `t` holds that point's scales. -/
def ScalesUpTo (c : Dev nD) (t : Fin cfg0.N) (X : Vec F S16x4096 .f32) : Prop :=
  ∀ u : Fin cfg0.N, u.val ≤ t.val → ∀ (r : Fin 16) (q : Fin 4096), r.val = u.val / 32 → q.val / 128 = u.val % 32 →
    X (ix2 r q) = scalesAt m c u (ix2 ⟨q.val % 128, Nat.mod_lt _ (by decide)⟩ 0)

/-- What the four output windows hold after point `t`. -/
def Rl (c : Dev nD) : (w : Fin cfg0.W) → Fin cfg0.N → ((cfg0.win w).block.Idx → Elt F (cfg0.win w).elt) → Prop :=
  fun w t X =>
    match w with
    | 0 => True
    | 1 => True
    | 2 => True
    | 3 => True
    | 4 => True
    | 5 => True
    | 6 => True
    | 7 => True
    | 8 => X = accAt m c t.val t.isLt
    | 9 => X = k0_pay1 (blkAt m c t)
    | 10 => X = bCodes (grid0.coords t) (insAt m c t)
    | 11 => ScalesUpTo m c t X

/-! ## The proof data -/

/-- The four output windows are held to `Rl`. -/
def marked : Fin 12 → Bool := fun w => decide (8 ≤ w.val)

/-- The proof data on core `c`: the arrays as the region finds them, each input's staging buffer left at its block, the
    outputs' unnamed; the scratch at anything; full shares; nothing owed. -/
def dats (_ : Fin 1) (c : Dev nD) : Dat τ (Elt F) Unit ℕ (UR sig nD τ) ℕ cfg0 c where
  A w := V m c (Pipeline.arrRef spec0 w)
  after w t :=
    match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => Pipeline.Dat.unnamed (cfg := cfg0) 8 t
    | 9 => Pipeline.Dat.unnamed (cfg := cfg0) 9 t
    | 10 => Pipeline.Dat.unnamed (cfg := cfg0) 10 t
    | 11 => Pipeline.Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) rfl (after0_0 m c) t d
theorem before0_1 (c : Dev nD) (t : Fin cfg0.N) (d) : (dats m 0 c).before 1 t d = iblk m c 1 t :=
  before0_1_of m (dats m 0 c) rfl (after0_1 m c) t d
theorem before0_2 (c : Dev nD) (t : Fin cfg0.N) (d) : (dats m 0 c).before 2 t d = iblk m c 2 t :=
  before0_2_of m (dats m 0 c) rfl (after0_2 m c) t d
theorem before0_3 (c : Dev nD) (t : Fin cfg0.N) (d) : (dats m 0 c).before 3 t d = iblk m c 3 t :=
  before0_3_of m (dats m 0 c) rfl (after0_3 m c) t d
theorem before0_4 (c : Dev nD) (t : Fin cfg0.N) (d) : (dats m 0 c).before 4 t d = iblk m c 4 t :=
  before0_4_of m (dats m 0 c) rfl (after0_4 m c) t d
theorem before0_5 (c : Dev nD) (t : Fin cfg0.N) (d) : (dats m 0 c).before 5 t d = iblk m c 5 t :=
  before0_5_of m (dats m 0 c) rfl (after0_5 m c) t d
theorem before0_6 (c : Dev nD) (t : Fin cfg0.N) (d) : (dats m 0 c).before 6 t d = iblk m c 6 t :=
  before0_6_of m (dats m 0 c) rfl (after0_6 m c) t d
theorem before0_7 (c : Dev nD) (t : Fin cfg0.N) (d) : (dats m 0 c).before 7 t d = iblk m c 7 t :=
  before0_7_of m (dats m 0 c) rfl (after0_7 m c) t d

/-! ## What a point finds in an output window -/

theorem finds8 (c : Dev nD) (t : Fin cfg0.N) (h : t.val % 32 ≠ 0) (Y) (hY : ((dats m 0 c).toRRel marked (Rl m c)).Finds 8 t Y) :
    Y = accAt m c (t.val - 1) (Nat.lt_of_le_of_lt (Nat.sub_le _ _) t.isLt) := by
  have h0 : t.val ≠ 0 := fun e => h (by rw [e])
  rcases (Pipeline.RDat.finds_of_pos _ rfl h0 Y).mp hY with hf | hL
  · have := (flush0_8 _).mp hf
    dsimp only at this
    omega
  · exact (dats m 0 c).toRRel_leaves (fgt := marked) (Rl := Rl m c) (w := 8) rfl hL

theorem finds11 (c : Dev nD) (t : Fin cfg0.N) (h : t.val ≠ 0) (Y) (hY : ((dats m 0 c).toRRel marked (Rl m c)).Finds 11 t Y) :
    ScalesUpTo m c ⟨t.val - 1, Nat.lt_of_le_of_lt (Nat.sub_le _ _) t.isLt⟩ Y := by
  rcases (Pipeline.RDat.finds_of_pos _ rfl h Y).mp hY with hf | hL
  · have := (flush0_11 _).mp hf
    have hN : t.val < 512 := t.isLt
    dsimp only at this
    omega
  · exact (dats m 0 c).toRRel_leaves (fgt := marked) (Rl := Rl m c) (w := 11) rfl hL

/-- One more point's scales written into the window. -/
theorem scales_step (c : Dev nD) (t : Fin cfg0.N) (Y : Vec F S16x4096 .f32)
    (hY : ((dats m 0 c).toRRel marked (Rl m c)).Finds 11 t Y) : ScalesUpTo m c t (bScaleWin (grid0.coords t) (insAt m c t) Y) := by
  intro u hu r q hr hq
  have hN : t.val < 512 := t.isLt
  have hNu : u.val < 512 := u.isLt
  rw [bScaleWin_apply]
  by_cases e : u = t
  · subst e
    rw [if_pos ⟨hr, hq⟩]; rfl
  · have hne : u.val ≠ t.val := fun h => e (Fin.ext h)
    rw [if_neg (by rintro ⟨h1, h2⟩; omega)]
    exact finds11 m c t (by omega) Y hY u (by show u.val ≤ t.val - 1; omega) r q hr hq

theorem Rl9 (c : Dev nD) (t : Fin cfg0.N) : Rl m c 9 t (k0_pay1 (bBlk (grid0.coords t) (insAt m c t))) := rfl
theorem Rl10 (c : Dev nD) (t : Fin cfg0.N) : Rl m c 10 t (bCodes (grid0.coords t) (insAt m c t)) := rfl
theorem Rl8_first (c : Dev nD) (t : Fin cfg0.N) (h : t.val % 32 = 0) :
    Rl m c 8 t (k0_pay2 (bBlk (grid0.coords t) (insAt m c t))) := (accAt_first m c t h).symm
theorem Rl8_later (c : Dev nD) (t : Fin cfg0.N) (h : t.val % 32 ≠ 0) (Y : Vec F S1x3x1536 .f32)
    (hY : ((dats m 0 c).toRRel marked (Rl m c)).Finds 8 t Y) :
    Rl m c 8 t (k0_pay3 (bBlk (grid0.coords t) (insAt m c t)) Y) := by
  rw [finds8 m c t h Y hY]; exact (accAt_later m c t h).symm

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, ⌜((dats m 0 c).toRRel marked (Rl m c)).Finds 8 t Y⌝ ∗ owns (c : Thread nD τ) (st0_8 t) fullShare Y)
    ∗ (∃ Y, ⌜((dats m 0 c).toRRel marked (Rl m c)).Finds 9 t Y⌝ ∗ owns (c : Thread nD τ) (st0_9 t) fullShare Y)
    ∗ (∃ Y, ⌜((dats m 0 c).toRRel marked (Rl m c)).Finds 10 t Y⌝ ∗ owns (c : Thread nD τ) (st0_10 t) fullShare Y)
    ∗ (∃ Y, ⌜((dats m 0 c).toRRel marked (Rl m c)).Finds 11 t Y⌝ ∗ owns (c : Thread nD τ) (st0_11 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, ⌜Rl m c 8 t X⌝ ∗ owns (c : Thread nD τ) (st0_8 t) fullShare X)
    ∗ (∃ X, ⌜Rl m c 9 t X⌝ ∗ owns (c : Thread nD τ) (st0_9 t) fullShare X)
    ∗ (∃ X, ⌜Rl m c 10 t X⌝ ∗ owns (c : Thread nD τ) (st0_10 t) fullShare X)
    ∗ (∃ X, ⌜Rl m c 11 t X⌝ ∗ owns (c : Thread nD τ) (st0_11 t) fullShare X))

set_option maxHeartbeats 4000000 in
/-- The body at point `t`: the scratch buffers taken out of the invariant, the body's run at the step's branch, the scratch buffers put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6, after0_7]
  unfold Pipeline.ΦA
  rw [scopedRest0_eq]
  simp only [← owns_whole]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%Y9, -, H9⟩, ⟨%Y10, -, H10⟩, ⟨%Y11, %hY11, H11⟩⟩
  by_cases h : t.val % 32 = 0
  · iapply (kernelRunFirst c _ _ _ _ _ _ _ _ _ _ _ _ _ _ _ _ _ _ _ _ _ _ _ _ _ (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (insAt m c t) Y11 ((cond1_iff t).mpr h) (fun h2 => (cond2_iff t).mp h2 h) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; swap; · iexact H8
      ipureintro; exact Rl8_first m c t h
    isplitl [H9]
    · iexists _; isplitr; swap; · iexact H9
      ipureintro; exact Rl9 m c t
    isplitl [H10]
    · iexists _; isplitr; swap; · iexact H10
      ipureintro; exact Rl10 m c t
    iexists _; isplitr; swap; · iexact H11
    ipureintro; exact scales_step m c t Y11 hY11
  · iapply (kernelRunLater c _ _ _ _ _ _ _ _ _ _ _ _ _ _ _ _ _ _ _ _ _ _ _ _ _ (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (insAt m c t) Y11 (fun h1 => h ((cond1_iff t).mp h1)) ((cond2_iff t).mpr h) Y8 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; swap; · iexact H8
      ipureintro; exact Rl8_later m c t h Y8 hY8
    isplitl [H9]
    · iexists _; isplitr; swap; · iexact H9
      ipureintro; exact Rl9 m c t
    isplitl [H10]
    · iexists _; isplitr; swap; · iexact H10
      ipureintro; exact Rl10 m c t
    iexists _; isplitr; swap; · iexact H11
    ipureintro; exact scales_step m c t Y11 hY11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs held to `Rl`: the triple restated. -/
theorem body_obligation (c : Dev nD) :
    BodyObligationRel (dats (F := F) m 0 c) (defs₀ (F := F)) Variants.none () Set.univ marked (Rl m c) := fun t => by
  rw [bigSep_W0, bigSep_W0, defs₀_row]
  exact triple_restated (sound_body m c t) rfl .rfl fun _ => .rfl

/-! ## The launch -/

set_option backward.isDefEq.respectTransparency.types false in
set_option maxHeartbeats 800000 in
/-- From any memory with zero counters, every execution terminates; at the end each output array holds blocks that meet
    `Rl` at the points that write them back, the inputs are as launched and the counters are zero. -/
theorem run_main :
    θ_run defs (onTc (τ := τ) (main (F := F))) (s₀ m ρ)
      (fun r => Pipeline.RDat.FramePost (cfgs 0) (fun c => (dats m 0 c).toRRel marked (Rl m c)) (V m) r ∧ r.2.sem = fun _ => 0) :=
  Pipeline.RDat.θ_run_frame (Q' := _) cfgs (0 : Fin 1) launch0 defs₀ Variants.none (fun c => (dats m 0 c).toRRel marked (Rl m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)
    (hQ' := fun _ h => h)

end Cert.KernelIdeal.Hand

end
-- ==== Proof.KernelArrays.lean ====
/- What the kernel's four result arrays hold at the end, element by element: the row totals of the last step, each
   point's column sums, each point's codes, and each point's scales. -/
module

public import proofs.«01_k».proof.Proof.KernelLaunch
public import Idealize.ShloMosaic.Lib.Pipeline.ValueKit.Geometry

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window RDat)

variable {F : FTy → Type} [FloatOps F] [∀ e, Nonempty (Elt F e)]
variable (m : (ℓ : Loc nD τ sig) → Buf (Elt F) ℓ) (ρ : Dev nD → PrngReg)

/-- The point of batch row `b` and step `s`. -/
def pt (b : Fin 16) (s : Fin 32) : Fin cfg0.N := ⟨32 * b.val + s.val, by have := b.isLt; have := s.isLt; show _ < 512; omega⟩

theorem index8 : ∀ t : Fin cfg0.N, (cfg0.win 8).index t = ![t.val / 32, 0, 0] := (by decide +kernel : ∀ t : Fin grid0.N, _)
theorem index9 : ∀ t : Fin cfg0.N, (cfg0.win 9).index t = ![t.val / 32, t.val % 32, 0, 0] := (by decide +kernel : ∀ t : Fin grid0.N, _)
theorem index10 : ∀ t : Fin cfg0.N, (cfg0.win 10).index t = ![t.val / 32, t.val % 32, 0] := (by decide +kernel : ∀ t : Fin grid0.N, _)

theorem index8_c : ∀ t : Fin cfg0.N, win0_8.index t 0 = t.val / 32 ∧ win0_8.index t 1 = 0 ∧ win0_8.index t 2 = 0 := (by decide +kernel : ∀ t : Fin grid0.N, _)
theorem index9_c : ∀ t : Fin cfg0.N, win0_9.index t 0 = t.val / 32 ∧ win0_9.index t 1 = t.val % 32 ∧ win0_9.index t 2 = 0 ∧ win0_9.index t 3 = 0 := (by decide +kernel : ∀ t : Fin grid0.N, _)
theorem index10_c : ∀ t : Fin cfg0.N, win0_10.index t 0 = t.val / 32 ∧ win0_10.index t 1 = t.val % 32 ∧ win0_10.index t 2 = 0 := (by decide +kernel : ∀ t : Fin grid0.N, _)

/-- What the launch leaves on core `c`. -/
structure Results (c : Dev nD) (μ : (ℓ : Loc nD τ sig) → Buf (Elt F) ℓ) : Prop where
  dmod : ∀ (b : Fin 16) (k : Fin 3) (d : Fin 1536), μ ((c.tc : Thread nD τ).loc main_v0_0) (ix3 b k d) = accAt m c (pt b 31).val (pt b 31).isLt (ix3 0 k d)
  psum : ∀ (b : Fin 16) (s : Fin 32) (k : Fin 3) (d : Fin 1536), μ ((c.tc : Thread nD τ).loc main_v0_1) (ix4 b s k d) = k0_pay1 (blkAt m c (pt b s)) (ix4 0 0 k d)
  code : ∀ (b : Fin 16) (s : Fin 32) (r : Fin 128) (d : Fin 1536), μ ((c.tc : Thread nD τ).loc main_v0_2) (ix3 b ⟨128 * s.val + r.val, by have := s.isLt; have := r.isLt; omega⟩ d)
      = bCodes (grid0.coords (pt b s)) (insAt m c (pt b s)) (ix3 0 r d)
  scale : ∀ (b : Fin 16) (s : Fin 32) (r : Fin 128), μ ((c.tc : Thread nD τ).loc main_v0_3) (ix2 b ⟨128 * s.val + r.val, by have := s.isLt; have := r.isLt; omega⟩)
      = scalesAt m c (pt b s) (ix2 r 0)

theorem hdisj8 : ∀ t t' : Fin cfg0.N, (cfg0.win 8).flush t = true → (cfg0.win 8).flush t' = true → t ≠ t' →
    Disjoint ((cfg0.win 8).blk t).view.set ((cfg0.win 8).blk t').view.set :=
  Pipeline.Window.hdisj_of_index_inj _ fun t t' hf hf' e => by
    rw [index8, index8] at e
    have h0 := congrFun e 0
    have := (flush0_8 t).mp hf; have := (flush0_8 t').mp hf'
    simp at h0
    exact Fin.ext (by omega)
theorem hdisj9 : ∀ t t' : Fin cfg0.N, (cfg0.win 9).flush t = true → (cfg0.win 9).flush t' = true → t ≠ t' →
    Disjoint ((cfg0.win 9).blk t).view.set ((cfg0.win 9).blk t').view.set :=
  Pipeline.Window.hdisj_of_index_inj _ fun t t' hf hf' e => by
    rw [index9, index9] at e
    have h0 := congrFun e 0
    have h1 := congrFun e 1
    simp at h0 h1
    exact Fin.ext (by omega)
theorem hdisj10 : ∀ t t' : Fin cfg0.N, (cfg0.win 10).flush t = true → (cfg0.win 10).flush t' = true → t ≠ t' →
    Disjoint ((cfg0.win 10).blk t).view.set ((cfg0.win 10).blk t').view.set :=
  Pipeline.Window.hdisj_of_index_inj _ fun t t' hf hf' e => by
    rw [index10, index10] at e
    have h0 := congrFun e 0
    have h1 := congrFun e 1
    simp at h0 h1
    exact Fin.ext (by omega)

theorem pt_div (b : Fin 16) (s : Fin 32) : (pt b s).val / 32 = b.val := by show (32 * b.val + s.val) / 32 = _; have := s.isLt; omega
theorem pt_mod (b : Fin 16) (s : Fin 32) : (pt b s).val % 32 = s.val := by show (32 * b.val + s.val) % 32 = _; have := s.isLt; omega

theorem results {r : PUnit × MemSt nD τ sig (Elt F)}
    (h : Pipeline.RDat.FramePost (cfgs 0) (fun c => (dats m 0 c).toRRel marked (Rl m c)) (V m) r) (c : Dev nD) : Results m c r.2.mem := by
  obtain ⟨after, hL, hA⟩ := h.exists_exact c
  have L : ∀ w u, marked w = true → (cfg0.win w).flush u = true → Rl m c w u (after w u) := fun w u hw hf =>
    (dats m 0 c).toRRel_leaves (fgt := marked) (Rl := Rl m c) (w := w) hw (hL w u hf)
  refine ⟨fun b k d => ?_, fun b s k d => ?_, fun b s r d => ?_, fun b s r => ?_⟩
  · have hf : (cfg0.win 8).flush (pt b 31) = true := (flush0_8 _).mpr (pt_mod b 31)
    have e1 := Pipeline.Dat.arrAt_emb_eq_flushed (((dats m 0 c).toRRel marked (Rl m c)).withAfter after) 8 hdisj8 (pt b 31) hf (ix3 0 k d)
    have e2 : ((cfg0.win 8).blk (pt b 31)).view.emb (ix3 0 k d) = ix3 b k d := by
      blk_ext [(index8_c (pt b 31)).1, (index8_c (pt b 31)).2.1, (index8_c (pt b 31)).2.2, pt_div, pt_mod] <;> simp [ix3]
    rw [← L 8 (pt b 31) rfl hf]
    have e3 := congrFun (hA 8) (ix3 b k d)
    rw [← e2] at e3 ⊢
    exact e3.trans e1
  · have hf : (cfg0.win 9).flush (pt b s) = true := flush0_9 _
    have e1 := Pipeline.Dat.arrAt_emb_eq_flushed (((dats m 0 c).toRRel marked (Rl m c)).withAfter after) 9 hdisj9 (pt b s) hf (ix4 0 0 k d)
    have e2 : ((cfg0.win 9).blk (pt b s)).view.emb (ix4 0 0 k d) = ix4 b s k d := by
      blk_ext [(index9_c (pt b s)).1, (index9_c (pt b s)).2.1, (index9_c (pt b s)).2.2.1, (index9_c (pt b s)).2.2.2, pt_div, pt_mod] <;> simp [ix4]
    rw [← L 9 (pt b s) rfl hf]
    have e3 := congrFun (hA 9) (ix4 b s k d)
    rw [← e2] at e3 ⊢
    exact e3.trans e1
  · have hf : (cfg0.win 10).flush (pt b s) = true := flush0_10 _
    have e1 := Pipeline.Dat.arrAt_emb_eq_flushed (((dats m 0 c).toRRel marked (Rl m c)).withAfter after) 10 hdisj10 (pt b s) hf (ix3 0 r d)
    have e2 : ((cfg0.win 10).blk (pt b s)).view.emb (ix3 0 r d) = ix3 b ⟨128 * s.val + r.val, by have := s.isLt; have := r.isLt; omega⟩ d := by
      blk_ext [(index10_c (pt b s)).1, (index10_c (pt b s)).2.1, (index10_c (pt b s)).2.2, pt_div, pt_mod] <;> simp [ix3] <;> omega
    rw [← L 10 (pt b s) rfl hf]
    have e3 := congrFun (hA 10) (ix3 b ⟨128 * s.val + r.val, by have := s.isLt; have := r.isLt; omega⟩ d)
    rw [← e2] at e3 ⊢
    exact e3.trans e1
  · have hW : (cfg0.win 11).WholeAt (pt 15 31) := by decide +kernel
    have hN := L 11 (pt 15 31) rfl hW.1
    have e1 := Pipeline.Dat.arrAt_emb_eq_after_last (((dats m 0 c).toRRel marked (Rl m c)).withAfter after) 11 (pt 15 31) hW
      (ix2 b ⟨128 * s.val + r.val, by have := s.isLt; have := r.isLt; omega⟩)
    have e3 := congrFun (hA 11) (ix2 b ⟨128 * s.val + r.val, by have := s.isLt; have := r.isLt; omega⟩)
    have e4 := hN (pt b s) (by show 32 * b.val + s.val ≤ 32 * 15 + 31; have := s.isLt; have := b.isLt; omega) b ⟨128 * s.val + r.val, by have := s.isLt; have := r.isLt; omega⟩
      (pt_div b s).symm (by rw [pt_mod]; show (128 * s.val + r.val) / 128 = _; have := r.isLt; omega)
    refine (e3.trans e1).trans (e4.trans ?_)
    congr 2
    exact Fin.ext (by show (128 * s.val + r.val) % 128 = _; have := r.isLt; omega)

end Cert.KernelIdeal.Hand

end
-- ==== Proof.Exponent.lean ====
/- The power-of-two exponent of a row. The kernel searches for the exponent field of `m = a / 57344` by comparing `m` with
   powers of two, in eight steps; the reference takes `floor (log2 m) + 1` and clips it to `[-126, 126]`. Both give the same
   scale and the same inverse scale, at every extended real. -/
module

public import Idealize.ShloMosaic.Lib.ValueIdx
public import Idealize.ShloMosaic.PureOps.Ideal.Laws

@[expose] public section

noncomputable section

namespace Cert.Expo

open Idealize.ShloMosaic

/-- The power of two whose 32-bit pattern has exponent field `k` and a zero fraction. -/
def T (k : ℕ) : EReal := (((2 : ℝ) ^ ((k : ℤ) - 127) : ℝ) : EReal)

theorem T_mono {i j : ℕ} (h : i ≤ j) : T i ≤ T j := by
  unfold T
  rw [EReal.coe_le_coe_iff]
  exact zpow_le_zpow_right₀ (by norm_num) (by omega)

/-- The word with exponent field `k` denotes that power of two. -/
theorem ofBits_shift (k : ℕ) (h1 : 1 ≤ k) (h2 : k ≤ 254) :
    Ideal.ofBits .f32 (IntOp.shli .vector (BitVec.ofNat 32 k) 23#32) = T k := by
  have hw : ∀ k : Fin 255, IntOp.shli .vector (BitVec.ofNat 32 k.val) 23#32 = BitVec.ofNat 32 (k.val * 8388608) := by decide +kernel
  have hx : ∀ k : Fin 255, ((BitVec.ofNat 32 (k.val * 8388608)).extractLsb' 31 1 == 1#1) = false
      ∧ ((BitVec.ofNat 32 (k.val * 8388608)).extractLsb' 23 8).toNat = k.val
      ∧ ((BitVec.ofNat 32 (k.val * 8388608)).extractLsb' 0 23).toNat = 0 := by decide +kernel
  rw [hw ⟨k, by omega⟩]
  obtain ⟨a1, a2, a3⟩ := hx ⟨k, by omega⟩
  show Ideal.ieee 8 23 _ = _
  unfold Ideal.ieee T
  simp only at a1 a2 a3 ⊢
  rw [a1, a2, a3, if_neg (by omega), if_neg (by omega)]
  congr 1
  have : ((k : ℤ) - 127) = ((k : ℤ) - (2 ^ (8 - 1) - 1) - 23) + 23 := by norm_num
  rw [this, zpow_add₀ (by norm_num)]
  norm_num
  ring

/-! ## The search -/

/-- One step of the search: `s` is added to the exponent field when the power of two it gives is at most `m`. -/
def step (m : EReal) (s k : ℕ) : ℕ := if T (k + s) ≤ m then k + s else k

/-- The step as the program's words. -/
def stepW (m : EReal) (s k : BitVec 32) : BitVec 32 :=
  Scalar.select (Ideal.cmp .oge m (Ideal.ofBits .f32 (IntOp.shli .vector (k + s) 23#32))) (k + s) k

theorem stepW_eq (m : EReal) (s k : ℕ) (h1 : 1 ≤ s) (h2 : k + s ≤ 254) :
    stepW m (BitVec.ofNat 32 s) (BitVec.ofNat 32 k) = BitVec.ofNat 32 (step m s k) := by
  unfold stepW step
  rw [← BitVec.ofNat_add, ofBits_shift (k + s) (by omega) h2]
  by_cases h : T (k + s) ≤ m
  · rw [if_pos h]
    have : Ideal.cmp .oge m (T (k + s)) = 1#1 := by simp [Ideal.cmp, h]
    rw [this]; rfl
  · rw [if_neg h]
    have : Ideal.cmp .oge m (T (k + s)) = 0#1 := by simp [Ideal.cmp, h]
    rw [this]; rfl

/-- The exponent field found by the eight steps. -/
def field (m : EReal) : ℕ :=
  step m 1 (step m 2 (step m 4 (step m 8 (step m 16 (step m 32 (step m 63 (step m 126 0)))))))

def field4W (m : EReal) : BitVec 32 := stepW m 16#32 (stepW m 32#32 (stepW m 63#32 (stepW m 126#32 0#32)))
def fieldW (m : EReal) (k : BitVec 32) : BitVec 32 := stepW m 1#32 (stepW m 2#32 (stepW m 4#32 (stepW m 8#32 k)))

/-- What is known while steps adding up to `R` are left. -/
structure Inv (m : EReal) (R k : ℕ) : Prop where
  le : k + R ≤ 252
  low : k = 0 ∨ T k ≤ m
  high : ∀ j, k + R < j → j ≤ 252 → m < T j

theorem Inv.step {m : EReal} {R k : ℕ} (s R' : ℕ) (h : Inv m R k) (hR : R = s + R') (hs : s ≤ R' + 1) : Inv m R' (step m s k) := by
  unfold Expo.step
  by_cases c : T (k + s) ≤ m
  · rw [if_pos c]
    exact ⟨by have := h.le; omega, .inr c, fun j hj hj' => h.high j (by omega) hj'⟩
  · rw [if_neg c]
    exact ⟨by have := h.le; omega, h.low, fun j hj hj' => lt_of_lt_of_le (not_le.mp c) (T_mono (by omega))⟩

theorem inv4 (m : EReal) : Inv m 15 (step m 16 (step m 32 (step m 63 (step m 126 0)))) :=
  ((((Inv.mk (by omega) (.inl rfl) (fun j hj hj' => by omega) : Inv m 252 0).step 126 126 rfl (by omega)).step 63 63 rfl (by omega)).step 32 31 rfl (by omega)).step
    16 15 rfl (by omega)

theorem inv_field (m : EReal) : Inv m 0 (field m) :=
  ((((inv4 m).step 8 7 rfl (by omega)).step 4 3 rfl (by omega)).step 2 1 rfl (by omega)).step 1 0 rfl (by omega)

theorem step_le (m : EReal) (s k : ℕ) : step m s k ≤ k + s := by unfold step; split <;> omega

theorem fieldW_eq (m : EReal) : fieldW m (field4W m) = BitVec.ofNat 32 (field m) := by
  unfold fieldW field4W field
  have a1 := step_le m 126 0
  have a2 := step_le m 63 (step m 126 0)
  have a3 := step_le m 32 (step m 63 (step m 126 0))
  have a4 := step_le m 16 (step m 32 (step m 63 (step m 126 0)))
  have a5 := step_le m 8 (step m 16 (step m 32 (step m 63 (step m 126 0))))
  have a6 := step_le m 4 (step m 8 (step m 16 (step m 32 (step m 63 (step m 126 0)))))
  have a7 := step_le m 2 (step m 4 (step m 8 (step m 16 (step m 32 (step m 63 (step m 126 0))))))
  rw [show stepW m 126#32 0#32 = _ from stepW_eq m 126 0 (by omega) (by omega), show stepW m 63#32 _ = _ from stepW_eq m 63 _ (by omega) (by omega),
    show stepW m 32#32 _ = _ from stepW_eq m 32 _ (by omega) (by omega), show stepW m 16#32 _ = _ from stepW_eq m 16 _ (by omega) (by omega),
    show stepW m 8#32 _ = _ from stepW_eq m 8 _ (by omega) (by omega), show stepW m 4#32 _ = _ from stepW_eq m 4 _ (by omega) (by omega),
    show stepW m 2#32 _ = _ from stepW_eq m 2 _ (by omega) (by omega), show stepW m 1#32 _ = _ from stepW_eq m 1 _ (by omega) (by omega)]

/-! ## The logarithm -/

theorem ln2_pos : (0 : ℝ) < Real.log 2 := Real.log_pos (by norm_num)

/-- The reference's exponent of `m`: the floor of the binary logarithm, plus one, clipped. -/
def refExp (m : EReal) : EReal :=
  min ((126 : ℝ) : EReal) (max (((-126 : ℝ)) : EReal) (Ideal.liftRound Int.floor (Ideal.div (Ideal.log m) ((Real.log 2 : ℝ) : EReal)) + 1))

theorem refExp_bot {m : EReal} (h : Ideal.log m = ⊥) : refExp m = ((-126 : ℝ) : EReal) := by
  unfold refExp
  have : Ideal.div ⊥ ((Real.log 2 : ℝ) : EReal) = ⊥ := by
    unfold Ideal.div
    rw [if_neg (by rw [EReal.coe_eq_zero]; exact ln2_pos.ne'), ← EReal.coe_inv]
    exact EReal.bot_mul_coe_of_pos (inv_pos.mpr ln2_pos)
  rw [h, this, Ideal.liftRound_bot, EReal.bot_add, max_eq_left bot_le, min_eq_right]
  rw [EReal.coe_le_coe_iff]; norm_num

theorem refExp_top : refExp ⊤ = ((126 : ℝ) : EReal) := by
  unfold refExp
  have : Ideal.div ⊤ ((Real.log 2 : ℝ) : EReal) = ⊤ := by
    unfold Ideal.div
    rw [if_neg (by rw [EReal.coe_eq_zero]; exact ln2_pos.ne'), ← EReal.coe_inv]
    exact EReal.top_mul_coe_of_pos (inv_pos.mpr ln2_pos)
  rw [show Ideal.log ⊤ = ⊤ from rfl, this, Ideal.liftRound_top]
  have e : (⊤ : EReal) + 1 = ⊤ := by rw [← EReal.coe_one, EReal.top_add_coe]
  rw [e, max_eq_right le_top, min_eq_left le_top]

/-- The floor of the binary logarithm. -/
def lg (r : ℝ) : ℤ := ⌊Real.log r / Real.log 2⌋

theorem le_lg {r : ℝ} (h : 0 < r) (k : ℤ) : k ≤ lg r ↔ (2 : ℝ) ^ k ≤ r := by
  unfold lg
  rw [Int.le_floor, le_div_iff₀ ln2_pos, ← Real.log_zpow, Real.log_le_log_iff (zpow_pos (by norm_num) k) h]

theorem refExp_pos {r : ℝ} (h : 0 < r) : refExp r = (((min 126 (max (-126) (lg r + 1)) : ℤ) : ℝ) : EReal) := by
  unfold refExp
  have e1 : Ideal.log (r : EReal) = ((Real.log r : ℝ) : EReal) := by
    show (if r ≤ 0 then ⊥ else ((Real.log r : ℝ) : EReal)) = _
    rw [if_neg (not_le.mpr h)]
  have e2 : Ideal.div ((Real.log r : ℝ) : EReal) ((Real.log 2 : ℝ) : EReal) = ((Real.log r / Real.log 2 : ℝ) : EReal) := by
    unfold Ideal.div
    rw [if_neg (by rw [EReal.coe_eq_zero]; exact ln2_pos.ne'), ← EReal.coe_inv, ← EReal.coe_mul]
    rfl
  rw [e1, e2, Ideal.liftRound_coe, ← EReal.coe_one, ← EReal.coe_add, ← EReal.coe_strictMono.monotone.map_max, ← EReal.coe_strictMono.monotone.map_min]
  unfold lg
  push_cast
  rfl

/-- The field found is the reference's exponent, offset by 126. -/
theorem refExp_eq (m : EReal) : refExp m = (((field m : ℤ) - 126 : ℤ) : ℝ) := by
  have hi := inv_field m
  have zero_of : (∀ k, ¬ T k ≤ m) → field m = 0 := fun h => hi.low.resolve_right (h _)
  have hT : ∀ k, (0 : ℝ) < (2 : ℝ) ^ ((k : ℤ) - 127) := fun k => zpow_pos (by norm_num) _
  induction m with
  | bot =>
    rw [refExp_bot rfl, zero_of fun k => by unfold T; exact not_le.mpr (EReal.bot_lt_coe _)]
    norm_num
  | top =>
    have : field ⊤ = 252 := by
      by_contra hne
      have := hi.le
      exact absurd (hi.high (field ⊤ + 1) (by omega) (by omega)) (not_lt.mpr le_top)
    rw [refExp_top, this]
    norm_num
  | coe r =>
    by_cases h : 0 < r
    · rw [refExp_pos h]
      congr 2
      have hle := hi.le
      rcases Nat.eq_zero_or_pos (field (r : EReal)) with h0 | h1
      · have := hi.high 1 (by omega) (by omega)
        unfold T at this
        rw [EReal.coe_lt_coe_iff] at this
        have := not_le.mp ((le_lg h _).not.mpr (not_le.mpr this))
        rw [h0]
        push_cast at this ⊢
        omega
      · have hlo := hi.low.resolve_left (by omega)
        unfold T at hlo
        rw [EReal.coe_le_coe_iff] at hlo
        have hlo := (le_lg h _).mpr hlo
        by_cases hm : field (r : EReal) < 252
        · have := hi.high (field (r : EReal) + 1) (by omega) (by omega)
          unfold T at this
          rw [EReal.coe_lt_coe_iff] at this
          have := not_le.mp ((le_lg h _).not.mpr (not_le.mpr this))
          push_cast at this
          omega
        · omega
    · have h' : r ≤ 0 := not_lt.mp h
      rw [refExp_bot (by show (if r ≤ 0 then ⊥ else ((Real.log r : ℝ) : EReal)) = _; rw [if_pos h']), zero_of fun k => by
        unfold T
        rw [EReal.coe_le_coe_iff]
        exact not_le.mpr (lt_of_le_of_lt h' (hT k))]
      norm_num

theorem exp2_int (n : ℤ) : Ideal.exp2 (((n : ℤ) : ℝ) : EReal) = (((2 : ℝ) ^ n : ℝ) : EReal) := by
  show ((Real.rpow 2 (n : ℝ) : ℝ) : EReal) = _
  congr 1
  exact Real.rpow_intCast 2 n

/-! ## Scale and inverse scale -/

/-- The kernel's exponent word of a row whose greatest absolute value is `a` (with `m = a / 57344`). -/
def expW (a m : EReal) : BitVec 32 := Scalar.select (Ideal.cmp .oeq a 0) 0#32 (fieldW m (field4W m) - 126#32)

/-- The reference's exponent. -/
def expR (a m : EReal) : EReal := Scalar.select (Ideal.cmp .oeq a 0) 0 (refExp m)

theorem scale_eq (a m : EReal) : Ideal.ofBits .f32 (IntOp.shli .vector (expW a m + 127#32) 23#32) = Ideal.exp2 (expR a m) := by
  unfold expW expR
  by_cases h : a = 0
  · have e : Ideal.cmp .oeq a 0 = 1#1 := by simp [Ideal.cmp, h]
    rw [e]
    have : Ideal.exp2 0 = (((2 : ℝ) ^ (0 : ℤ) : ℝ) : EReal) := by have := exp2_int 0; simpa using this
    refine (ofBits_shift 127 (by omega) (by omega)).trans (Eq.trans ?_ this.symm)
    rfl
  · have e : Ideal.cmp .oeq a 0 = 0#1 := by simp [Ideal.cmp, h]
    rw [e, ValueIdx.select_zero, ValueIdx.select_zero, fieldW_eq, refExp_eq, exp2_int]
    have hk := (inv_field m).le
    have hw : ∀ k : Fin 253, BitVec.ofNat 32 k.val - 126#32 + 127#32 = BitVec.ofNat 32 (k.val + 1) := by decide +kernel
    have hw' := hw ⟨field m, by omega⟩
    simp only at hw'
    rw [hw', ofBits_shift _ (by omega) (by omega)]
    unfold T
    congr 2
    push_cast
    ring

theorem inv_eq (a m : EReal) : Ideal.ofBits .f32 (IntOp.shli .vector (127#32 - expW a m) 23#32) = Ideal.exp2 (0 - expR a m) := by
  unfold expW expR
  by_cases h : a = 0
  · have e : Ideal.cmp .oeq a 0 = 1#1 := by simp [Ideal.cmp, h]
    rw [e]
    have : Ideal.exp2 (0 - 0) = (((2 : ℝ) ^ (0 : ℤ) : ℝ) : EReal) := by have := exp2_int 0; simpa using this
    rw [ValueIdx.select_one, ValueIdx.select_one, this, show (127#32 - 0#32 : BitVec 32) = BitVec.ofNat 32 127 by decide, ofBits_shift 127 (by omega) (by omega)]
    rfl
  · have e : Ideal.cmp .oeq a 0 = 0#1 := by simp [Ideal.cmp, h]
    rw [e, ValueIdx.select_zero, ValueIdx.select_zero, fieldW_eq, refExp_eq]
    have hz : (0 : EReal) - ((((field m : ℤ) - 126 : ℤ) : ℝ) : EReal) = (((126 - (field m : ℤ) : ℤ) : ℝ) : EReal) := by
      rw [← EReal.coe_zero, ← EReal.coe_sub]
      congr 1
      push_cast
      ring
    rw [hz, exp2_int]
    have hk := (inv_field m).le
    have hw : ∀ k : Fin 253, 127#32 - (BitVec.ofNat 32 k.val - 126#32) = BitVec.ofNat 32 (253 - k.val) := by decide +kernel
    have hw' := hw ⟨field m, by omega⟩
    simp only at hw'
    rw [hw', ofBits_shift _ (by omega) (by omega)]
    unfold T
    congr 2
    push_cast [Nat.cast_sub (show field m ≤ 253 by omega)]
    ring

end Cert.Expo

end
-- ==== Proof.RowModel.lean ====
/- The mathematics of one row of 1536 elements, over the extended reals: layer norm, its gradient, the greatest absolute
   value, and the row's scale and codes. Both programs compute this. -/
module

public import proofs.«01_k».proof.Proof.Exponent

@[expose] public section

noncomputable section

namespace Cert.Row

open Idealize.ShloMosaic

abbrev Row := Fin 1536 → EReal

/-- The row's mean, as the sum divided by the constant 1536. -/
def mean (v : Row) : EReal := Ideal.div (∑ k, v k) (Ideal.ofBits .f32 0x44C00000#32)
def centred (x : Row) : Row := fun k => x k - mean x
def rstd (x : Row) : EReal := Ideal.rsqrt (mean (fun k => centred x k * centred x k) + Ideal.ofBits .f32 0x358637BD#32)
def xhat (x : Row) : Row := fun k => centred x k * rstd x
def gw (dh w : Row) : Row := fun k => dh k * w k
/-- The gradient that reaches the layer norm's input, plus the residual `dy`. -/
def grad (x dy dh w : Row) : Row := fun k =>
  dy k + rstd x * (gw dh w k - mean (gw dh w) - xhat x k * mean (fun j => gw dh w j * xhat x j))
/-- The row's greatest absolute value. -/
def amax (v : Row) : EReal := (Finset.univ : Finset (Fin 1536)).fold max (Ideal.ofBits .f32 0xFF800000#32) (fun k => max (v k) (-(v k)))
/-- The greatest absolute value divided by the largest code, 57344. -/
def scaled (a : EReal) : EReal := a * Ideal.ofBits .f32 0x37924925#32
def scale (v : Row) : EReal := Ideal.exp2 (Expo.expR (amax v) (scaled (amax v)))
def code (v : Row) : Row := fun k =>
  min (Ideal.ofBits .f32 0x47600000#32) (max (Ideal.ofBits .f32 0xC7600000#32) (v k * Ideal.exp2 (0 - Expo.expR (amax v) (scaled (amax v)))))

/-- The three column sums of a block of 128 rows, one row's term of each. -/
def colTerm (j : Fin 3) (x dy dh f : Row) : Row := fun k =>
  match j with
  | 0 => dh k
  | 1 => dh k * xhat x k
  | 2 => dy k * f k

/-- Row `q` of block `s`. -/
abbrev row (s : Fin 32) (q : Fin 128) : Fin 4096 := ⟨128 * s.val + q.val, by have := s.isLt; have := q.isLt; omega⟩

end Cert.Row

end
-- ==== Proof.KernelRows.lean ====
/- What the kernel's operations on thirty-two rows compute, element by element, in terms of the row mathematics. -/
module

public import proofs.«01_k».proof.Proof.ScaleWin
public import proofs.«01_k».proof.Proof.RowModel
public import Idealize.ShloMosaic.Lib.Pipeline.ValueKit.Tiles

@[expose] public section

set_option maxRecDepth 16384

noncomputable section

namespace Cert.KernelIdeal.Hand

open Cert.KernelIdeal.Gen Cert.Row
open Idealize.ShloMosaic Idealize.ShloMosaic.TcCoe Idealize.ShloMosaic.ValueIdx Idealize.ShloMosaic.Ideal

/-! ## The layout operations, read at an index -/

theorem col_apply (x : FVec Ideal S32 .f32) (r : Fin 32) (u : Fin 1) :
    shapeCast S32x1 x shapeCasts_S32_S32x1 (ix2 r u) = x (ix1 r) :=
  shapeCast_apply _ _ _ _ (by
    rw [Shape.rowMajor_val_two, Shape.rowMajor_val_one]
    show r.val = r.val * 1 + u.val
    omega)
theorem spread_apply (x : FVec Ideal S32x1 .f32) (r : Fin 32) (k : Fin 1536) :
    broadcastTo S32x1536 x broadcasts_S32x1_S32x1536 (ix2 r k) = x (ix2 r 0) :=
  broadcastTo_apply _ _ _ _ fun a => match a with | 0 => rfl | 1 => rfl
theorem lanes_apply (x : FVec Ideal S32x1 .f32) (r : Fin 32) (k : Fin 128) :
    broadcastTo S32x128 x broadcasts_S32x1_S32x128 (ix2 r k) = x (ix2 r 0) :=
  broadcastTo_apply _ _ _ _ fun a => match a with | 0 => rfl | 1 => rfl
theorem down_apply (x : FVec Ideal S1x1536 .f32) (r : Fin 32) (k : Fin 1536) :
    broadcastTo S32x1536 x broadcasts_S1x1536_S32x1536 (ix2 r k) = x (ix2 0 k) :=
  broadcastTo_apply _ _ _ _ fun a => match a with | 0 => rfl | 1 => rfl
theorem rowSum_apply (x : FVec Ideal S32x1536 .f32) (r : Fin 32) :
    multiReduction .add [1] S32 x 0x00000000#32 reduces_S32x1536_S32 (.inl rfl) rfl (ix1 r) = ∑ k, x (ix2 r k) := by
  refine (multiReduction_add_single _ _ _ _ _ _).trans ?_
  exact Finset.sum_congr rfl fun k _ => congrArg x (funext fun a => match a with | 0 => rfl | 1 => rfl)
theorem rowMax_apply (x : FVec Ideal S32x1536 .f32) (r : Fin 32) :
    multiReduction .maximumf [1] S32 x 0xFF800000#32 reduces_S32x1536_S32 (.inl rfl) rfl (ix1 r)
      = (Finset.univ : Finset (Fin 1536)).fold max (Ideal.ofBits .f32 0xFF800000#32) (fun k => x (ix2 r k)) := by
  refine (multiReduction_maximumf_single _ _ _ _ _ _).trans ?_
  exact congrArg (Finset.fold max _ · _) (funext fun k => congrArg x (funext fun a => match a with | 0 => rfl | 1 => rfl))
/-- Thirty-two rows summed down to eight: sublane `q` takes the rows `q`, `8 + q`, `16 + q` and `24 + q`. -/
theorem groupSum_apply (x : FVec Ideal S32x1536 .f32) (q : Fin 8) (k : Fin 1536) :
    multiReduction .add [0] S8x1536 (shapeCast S4x8x1536 x shapeCasts_S32x1536_S4x8x1536) 0x00000000#32
        reduces_S4x8x1536_S8x1536 (.inl rfl) rfl (ix2 q k)
      = ∑ g : Fin 4, x (ix2 ⟨8 * g.val + q.val, by have := g.isLt; have := q.isLt; omega⟩ k) := by
  refine (multiReduction_add_single _ _ _ _ _ _).trans ?_
  refine Finset.sum_congr rfl fun (g : Fin 4) _ => ?_
  refine shapeCast_apply _ _ _ _ ?_
  have e : (reduces_S4x8x1536_S8x1536).lift (ix2 q k) g = ix3 g q k :=
    funext fun a => match a with | 0 => rfl | 1 => rfl | 2 => rfl
  rw [e, Shape.rowMajor_val_three, Shape.rowMajor_val_two]
  show (8 * g.val + q.val) * 1536 + k.val = (g.val * 8 + q.val) * 1536 + k.val
  omega
/-- Eight sublanes summed to one. -/
theorem subSum_apply (x : FVec Ideal S8x1536 .f32) (k : Fin 1536) :
    multiReduction .add [0] S1536 x 0x00000000#32 reduces_S8x1536_S1536 (.inl rfl) rfl (ix1 k) = ∑ q : Fin 8, x (ix2 q k) := by
  refine (multiReduction_add_single _ _ _ _ _ _).trans ?_
  exact Finset.sum_congr rfl fun q _ => congrArg x (funext fun a => match a with | 0 => rfl | 1 => rfl)
theorem subSum128_apply (x : FVec Ideal S8x128 .f32) (k : Fin 128) :
    multiReduction .add [0] S128 x 0x00000000#32 reduces_S8x128_S128 (.inl rfl) rfl (ix1 k) = ∑ q : Fin 8, x (ix2 q k) := by
  refine (multiReduction_add_single _ _ _ _ _ _).trans ?_
  exact Finset.sum_congr rfl fun q _ => congrArg x (funext fun a => match a with | 0 => rfl | 1 => rfl)
theorem mean_apply (x : FVec Ideal S32x1536 .f32) (r : Fin 32) (u : Fin 1) :
    divf (F := Ideal) (shapeCast S32x1 (multiReduction .add [1] S32 x 0x00000000#32 reduces_S32x1536_S32 (.inl rfl) rfl)
      shapeCasts_S32_S32x1) (broadcast S32x1 (Scalar.ofBits .f32 0x44C00000#32)) (ix2 r u) = mean (fun k => x (ix2 r k)) := by
  show Ideal.div (shapeCast S32x1 _ _ (ix2 r u)) _ = _
  rw [col_apply, rowSum_apply]; rfl

/-! ## Thirty-two rows -/

section
variable (w : FVec Ideal S1x1536 .f32) (x dy dh f : FVec Ideal S32x1536 .f32) (r : Fin 32) (k : Fin 1536)

/-- A row of a block of thirty-two. -/
abbrev rowOf (v : FVec Ideal S32x1536 .f32) (r : Fin 32) : Row := fun k => v (ix2 r k)

theorem pay20_apply : k0_pay20 (F := Ideal) x (ix2 r k) = centred (rowOf x r) k := by
  unfold k0_pay20
  dsimp only
  rw [subf_apply, spread_apply, mean_apply]
  rfl
theorem pay21_apply : k0_pay21 (F := Ideal) x (ix2 r 0) = rstd (rowOf x r) := by
  show Ideal.rsqrt (addf (F := Ideal) _ _ (ix2 r 0)) = _
  rw [addf_apply, mean_apply]
  simp only [mulf_apply, pay20_apply]
  rfl
theorem pay22_apply : k0_pay22 (F := Ideal) x (ix2 r k) = xhat (rowOf x r) k := by
  unfold k0_pay22
  rw [mulf_apply, spread_apply, pay20_apply, pay21_apply]
  rfl
/-- The gradient's last expression, of any vectors in place of `dy`, `dh * w`, `xhat` and `rstd`. -/
theorem gradExpr_apply (dy g xh : FVec Ideal S32x1536 .f32) (rs : FVec Ideal S32x1 .f32) :
    addf (F := Ideal) dy (mulf (broadcastTo S32x1536 rs broadcasts_S32x1_S32x1536)
      (subf (subf g (broadcastTo S32x1536 (divf (shapeCast S32x1
          (multiReduction .add [1] S32 g 0x00000000#32 reduces_S32x1536_S32 (.inl rfl) rfl) shapeCasts_S32_S32x1)
          (broadcast S32x1 (Scalar.ofBits .f32 0x44C00000#32))) broadcasts_S32x1_S32x1536))
        (mulf xh (broadcastTo S32x1536 (divf (shapeCast S32x1
          (multiReduction .add [1] S32 (mulf g xh) 0x00000000#32 reduces_S32x1536_S32 (.inl rfl) rfl) shapeCasts_S32_S32x1)
          (broadcast S32x1 (Scalar.ofBits .f32 0x44C00000#32))) broadcasts_S32x1_S32x1536)))) (ix2 r k)
    = (dy (ix2 r k) + rs (ix2 r 0) * (g (ix2 r k) - mean (fun k => g (ix2 r k)) - xh (ix2 r k) * mean (fun k => g (ix2 r k) * xh (ix2 r k))) : EReal) := by
  rw [addf_apply, mulf_apply, subf_apply, subf_apply, mulf_apply, spread_apply, spread_apply, spread_apply, mean_apply, mean_apply]
  rfl
theorem pay26_apply : k0_pay26 (F := Ideal) w x dy dh (ix2 r k)
    = grad (rowOf x r) (rowOf dy r) (rowOf dh r) (fun k => w (ix2 0 k)) k := by
  refine (gradExpr_apply r k dy (mulf dh (broadcastTo S32x1536 w broadcasts_S1x1536_S32x1536)) (k0_pay22 x) (k0_pay21 x)).trans ?_
  simp only [mulf_apply, down_apply, pay21_apply, pay22_apply]
  rfl
theorem pay28_apply : k0_pay28 (F := Ideal) (k0_pay27 w x dy dh) (ix2 r 0)
    = amax (grad (rowOf x r) (rowOf dy r) (rowOf dh r) (fun k => w (ix2 0 k))) := by
  unfold k0_pay28
  dsimp only
  rw [col_apply, rowMax_apply]
  unfold amax
  congr 1
  funext k
  show max (k0_pay26 _ _ _ _ _) (-(k0_pay26 _ _ _ _ _)) = _
  rw [pay26_apply]

/-- One step of the search for the exponent field, on a column of rows. -/
def stepV (M : FVec Ideal S32x1 .f32) (s : BitVec 32) (K : IVec S32x1 32) : IVec S32x1 32 :=
  select (cmpf .oge M (bitcastToFloat .f32 (shli (addi K (broadcast S32x1 s)) (broadcast S32x1 23#32)))) (addi K (broadcast S32x1 s)) K
theorem stepV_apply (M : FVec Ideal S32x1 .f32) (s : BitVec 32) (K : IVec S32x1 32) (i : S32x1.Idx) :
    stepV M s K i = Expo.stepW (M i) s (K i) := rfl
theorem pay31_eq (A : FVec Ideal S32x1536 .f32) : k0_pay31 (F := Ideal) A
    = stepV (k0_pay29 A) 16#32 (stepV (k0_pay29 A) 32#32 (stepV (k0_pay29 A) 63#32 (stepV (k0_pay29 A) 126#32 (broadcast S32x1 0#32)))) := rfl
theorem pay33_eq (M : FVec Ideal S32x1 .f32) (Z : IVec S32x1 1) (K : IVec S32x1 32) : k0_pay33 (F := Ideal) M Z K k0_pay32
    = select Z (broadcast S32x1 0#32) (subi (stepV M 1#32 (stepV M 2#32 (stepV M 4#32 (stepV M 8#32 K)))) (broadcast S32x1 126#32)) := rfl

/-- The exponent the kernel finds bit by bit. -/
theorem exponent_apply (A : FVec Ideal S32x1536 .f32) : k0_pay33 (F := Ideal) (k0_pay29 A) (k0_pay30 A) (k0_pay31 A) k0_pay32 (ix2 r 0)
    = Expo.expW (k0_pay28 A (ix2 r 0)) (scaled (k0_pay28 A (ix2 r 0))) := by
  rw [pay33_eq]
  have h4 : k0_pay31 (F := Ideal) A (ix2 r 0) = Expo.field4W (scaled (k0_pay28 A (ix2 r 0))) := by
    rw [pay31_eq, stepV_apply, stepV_apply, stepV_apply, stepV_apply]; rfl
  have h8 : stepV (k0_pay29 A) 1#32 (stepV (k0_pay29 A) 2#32 (stepV (k0_pay29 A) 4#32 (stepV (k0_pay29 A) 8#32 (k0_pay31 A)))) (ix2 r 0)
      = Expo.fieldW (scaled (k0_pay28 A (ix2 r 0))) (Expo.field4W (scaled (k0_pay28 A (ix2 r 0)))) := by
    rw [stepV_apply, stepV_apply, stepV_apply, stepV_apply, h4]; rfl
  have hz : k0_pay30 (F := Ideal) A (ix2 r 0) = Ideal.cmp .oeq (k0_pay28 A (ix2 r 0)) 0 := by
    unfold k0_pay30
    generalize k0_pay28 A = B
    show Ideal.cmp .oeq (B (ix2 r 0)) (Ideal.ofBits .f32 0x00000000#32) = _
    rw [ofBits_zero_f32]
  generalize stepV (k0_pay29 A) 1#32 _ = K at h8 ⊢
  show Scalar.select (k0_pay30 (F := Ideal) A (ix2 r 0)) 0#32 (K (ix2 r 0) - 126#32) = _
  rw [h8, hz]
  rfl
theorem scale_apply (A : FVec Ideal S32x1536 .f32) (l : Fin 128) :
    k0_pay36 (F := Ideal) (k0_pay34 (k0_pay29 A) (k0_pay30 A) (k0_pay31 A) k0_pay32) (ix2 r l)
    = Ideal.exp2 (Expo.expR (k0_pay28 A (ix2 r 0)) (scaled (k0_pay28 A (ix2 r 0)))) := by
  rw [← Expo.scale_eq, ← exponent_apply]
  unfold k0_pay36
  rw [shapeCast_apply _ _ _ (ix2 r l : S32x128.Idx) rfl, lanes_apply, shapeCast_apply _ _ _ (ix2 r 0 : S32x1.Idx) rfl]
  rfl
theorem code_apply (dx : FVec Ideal S32x1536 .f32) (e : IVec S32x1 32) (u : Fin 1) :
    (k0_pay35 (F := Ideal) dx e 127#32 (ix3 u r k) : EReal) = min (Ideal.ofBits .f32 0x47600000#32) (max (Ideal.ofBits .f32 0xC7600000#32)
      (dx (ix2 r k) * Ideal.ofBits .f32 (IntOp.shli .vector (127#32 - e (ix2 r 0)) 23#32))) := by
  unfold k0_pay35
  rw [shapeCast_apply _ _ _ (ix2 r k : S32x1536.Idx) (by
    rw [Shape.rowMajor_val_three, Shape.rowMajor_val_two]
    show r.val * 1536 + k.val = (u.val * 32 + r.val) * 1536 + k.val
    omega)]
  show min _ (max _ (dx (ix2 r k) * broadcastTo S32x1536 _ broadcasts_S32x1_S32x1536 (ix2 r k))) = _
  rw [spread_apply]
  rfl
end

section
variable (a : FVec Ideal S8x1536 .f32) (x dy dh f : FVec Ideal S32x1536 .f32) (q : Fin 8) (k : Fin 1536)
abbrev sub (g : Fin 4) (q : Fin 8) : Fin 32 := ⟨8 * g.val + q.val, by have := g.isLt; have := q.isLt; omega⟩
theorem pay23_apply : (k0_pay23 (F := Ideal) a dh (ix2 q k) : EReal) = a (ix2 q k) + ∑ g : Fin 4, dh (ix2 (sub g q) k) := by
  unfold k0_pay23
  dsimp only
  rw [addf_apply, groupSum_apply]
theorem pay24_apply : (k0_pay24 (F := Ideal) a x dh (ix2 q k) : EReal) = a (ix2 q k) + ∑ g : Fin 4, dh (ix2 (sub g q) k) * xhat (rowOf x (sub g q)) k := by
  unfold k0_pay24
  dsimp only
  rw [addf_apply, groupSum_apply]
  simp only [mulf_apply, pay22_apply]
theorem pay25_apply : (k0_pay25 (F := Ideal) a dy f (ix2 q k) : EReal) = a (ix2 q k) + ∑ g : Fin 4, (dy (ix2 (sub g q) k) : EReal) * f (ix2 (sub g q) k) := by
  unfold k0_pay25
  dsimp only
  rw [addf_apply, groupSum_apply]
  simp only [mulf_apply]
end

end Cert.KernelIdeal.Hand

end
-- ==== Proof.KernelBlock.lean ====
/- What one grid point of the kernel computes, element by element: its rows' codes and scales, and its three column sums,
   from what its input windows hold. -/
module

public import proofs.«01_k».proof.Proof.KernelRows

@[expose] public section

set_option maxRecDepth 16384

noncomputable section

namespace Cert.KernelIdeal.Hand

open Cert.KernelIdeal.Gen Cert.Row
open Idealize.ShloMosaic Idealize.ShloMosaic.TcCoe Idealize.ShloMosaic.ValueIdx Idealize.ShloMosaic.Ideal

/-! ## The batch row's scales -/

/-- A sum over eight sublanes with one of them selected and zero in the others is the selected one. -/
theorem pick_sum (b : Fin 16) (v : Fin 8 → EReal) :
    ∑ r : Fin 8, Scalar.select (Scalar.cmpi .eq (BitVec.ofNat 32 (0 * 8 + r.val)) (rem8 (BitVec.ofNat 32 b.val))) (v r) (Ideal.ofBits .f32 0x00000000#32)
      = v ⟨b.val % 8, Nat.mod_lt _ (by decide)⟩ := by
  rw [Finset.sum_eq_single (⟨b.val % 8, Nat.mod_lt _ (by decide)⟩ : Fin 8)]
  · rw [rem8_mask, if_pos rfl, select_one]
  · intro r _ hr
    rw [rem8_mask, if_neg (fun h => hr (Fin.ext h)), select_zero, ofBits_zero_f32]
  · intro h; exact absurd (Finset.mem_univ _) h

/-- Row `r` of the chunk that begins at row `o`. -/
abbrev at_ (o : Nat) (h : o + 32 ≤ 128) (r : Fin 32) : Fin 128 := ⟨o + r.val, by have := r.isLt; omega⟩

section
variable (b : Fin 16) (s : Fin 32) (I : Ins Ideal) (q : Fin 128)
/-- Row `q` of the block, dequantised, and the modulation row. -/
def iX : Row := fun k => (I.x0 (ix3 0 q k) : EReal) * I.x1 (ix2 b (row s q))
def iDY : Row := fun k => (I.x3 (ix3 0 q k) : EReal) * I.x4 (ix2 b (row s q))
def iDH : Row := fun k => (I.x5 (ix3 0 q k) : EReal) * I.x6 (ix2 b (row s q))
def iF : Row := fun k => I.x2 (ix3 0 q k)
def iW : Row := fun k => Ideal.ofBits .f32 0x3F800000#32 + I.x7 (ix2 b k)
def iGrad : Row := grad (iX b s I q) (iDY b s I q) (iDH b s I q) (iW b I)
end

/-- One of the three column sums of the block. -/
def colSum (b : Fin 16) (s : Fin 32) (I : Ins Ideal) (j : Fin 3) (k : Fin 1536) : EReal :=
  ∑ q : Fin 128, colTerm j (iX b s I q) (iDY b s I q) (iDH b s I q) (iF I q) k

/-! ## The rows of the block, cut out -/

theorem rowsCut_apply {e : EltTy} (o : Nat) (h : o + 32 ≤ 128) (x : Vec Ideal S1x128x1536 e) (r : Fin 32) (k : Fin 1536) :
    rowsCut o h x (ix3 0 r k) = x (ix3 0 ⟨o + r.val, by have := r.isLt; omega⟩ k) := by
  unfold rowsCut
  show x ((Rect.unit (s := S1x128x1536) ![0, o, 0] S1x32x1536.size (rows_inb o h)).emb (ix3 0 r k : S1x32x1536.Idx)) = _
  congr 1
  funext a
  match a with
  | 0 => rfl
  | 1 => apply Fin.ext; show o + 1 * r.val = o + r.val; omega
  | 2 => apply Fin.ext; show 0 + 1 * k.val = k.val; omega
theorem colCut_apply (o : Nat) (h : o + 32 ≤ 128) (x : Vec Ideal S128x128 .f32) (r : Fin 32) :
    colCut o h x (ix2 r 0) = x (ix2 ⟨o + r.val, by have := r.isLt; omega⟩ 0) := by
  unfold colCut
  show x ((Rect.unit (s := S128x128) ![o, 0] S32x1.size (col_inb o h)).emb (ix2 r 0 : S32x1.Idx)) = _
  congr 1
  funext a
  match a with
  | 0 => apply Fin.ext; show o + 1 * r.val = o + r.val; omega
  | 1 => rfl

theorem bF_apply (o : Nat) (h : o + 32 ≤ 128) (I : Ins Ideal) (r : Fin 32) (k : Fin 1536) : bF o h I (ix2 r k) = iF I (at_ o h r) k := by
  unfold bF
  show (shapeCast S32x1536 (rowsCut o h I.x2) shapeCasts_S1x32x1536_S32x1536 (ix2 r k) : EReal) = _
  rw [shapeCast_1ab_ab_apply, rowsCut_apply]
  rfl

/-! ## The order of the sums -/

/-- 128 terms added chunk by chunk, sublane by sublane, and then over the sublanes. -/
theorem chunked_sum (f : Fin 128 → EReal) :
    ∑ q : Fin 8, ((((0 + ∑ g : Fin 4, f (at_ 0 (by decide) (sub g q))) + ∑ g : Fin 4, f (at_ 32 (by decide) (sub g q)))
      + ∑ g : Fin 4, f (at_ 64 (by decide) (sub g q))) + ∑ g : Fin 4, f (at_ 96 (by decide) (sub g q))) = ∑ r, f r := by
  have h1 : ∑ r, f r = ∑ p : Fin 16, ∑ q : Fin 8, f ⟨8 * p.val + q.val, by have := p.isLt; have := q.isLt; omega⟩ := by
    rw [← Fintype.sum_prod_type', ← (finProdFinEquiv (m := 16) (n := 8)).sum_comp f]
    refine Finset.sum_congr rfl fun x _ => congrArg f (Fin.ext ?_)
    show x.2.val + 8 * x.1.val = 8 * x.1.val + x.2.val
    omega
  rw [h1, Finset.sum_comm]
  refine Finset.sum_congr rfl fun q _ => ?_
  have h2 : ∀ F : Fin 16 → EReal, ∑ p, F p = ∑ c : Fin 4, ∑ g : Fin 4, F ⟨4 * c.val + g.val, by have := c.isLt; have := g.isLt; omega⟩ := by
    intro F
    rw [← Fintype.sum_prod_type', ← (finProdFinEquiv (m := 4) (n := 4)).sum_comp F]
    refine Finset.sum_congr rfl fun x _ => congrArg F (Fin.ext ?_)
    show x.2.val + 4 * x.1.val = 4 * x.1.val + x.2.val
    omega
  rw [h2, Fin.sum_univ_four (fun c : Fin 4 => ∑ g : Fin 4, _), zero_add]
  congr 1
  · congr 1
    · congr 1
      · exact Finset.sum_congr rfl fun g _ => congrArg f (Fin.ext (by show 0 + (8 * g.val + q.val) = 8 * (4 * 0 + g.val) + q.val; omega))
      · exact Finset.sum_congr rfl fun g _ => congrArg f (Fin.ext (by show 32 + (8 * g.val + q.val) = 8 * (4 * 1 + g.val) + q.val; omega))
    · exact Finset.sum_congr rfl fun g _ => congrArg f (Fin.ext (by show 64 + (8 * g.val + q.val) = 8 * (4 * 2 + g.val) + q.val; omega))
  · exact Finset.sum_congr rfl fun g _ => congrArg f (Fin.ext (by show 96 + (8 * g.val + q.val) = 8 * (4 * 3 + g.val) + q.val; omega))

theorem zeros_apply (i : S8x1536.Idx) : (k0_pay13 (F := Ideal) i : EReal) = 0 := ofBits_zero_f32

variable (t : Fin grid0.N) (b : Fin 16) (s : Fin 32) (hb : t.val / 32 = b.val) (hs : t.val % 32 = s.val)
include hb hs

theorem grp_apply (x : Vec Ideal S16x4096 .f32) (r : Fin 8) (l : Fin 128) (hr : r.val = b.val % 8) :
    grp (grid0.coords t) x (ix2 r l) = x (ix2 b (row s l)) := by
  unfold grp
  show x ((Rect.unit (s := S16x4096) (k0_off1 (grid0.coords t)) S8x128.size (k0_off1_inb (grid0.coords t))).emb (ix2 r l : S8x128.Idx)) = _
  congr 1
  have o0 : k0_off1 (grid0.coords t) 0 = 8 * (t.val / 256) := congrFun (off1_eq t) 0
  have o1 : k0_off1 (grid0.coords t) 1 = 128 * (t.val % 32) := congrFun (off1_eq t) 1
  funext a
  match a with
  | 0 =>
    apply Fin.ext
    show k0_off1 (grid0.coords t) 0 + 1 * r.val = b.val
    rw [o0]; omega
  | 1 =>
    apply Fin.ext
    show k0_off1 (grid0.coords t) 1 + 1 * l.val = 128 * s.val + l.val
    rw [o1]; omega
omit hs in
theorem grpW_apply (x : Vec Ideal S16x1536 .f32) (r : Fin 8) (k : Fin 1536) (hr : r.val = b.val % 8) :
    grpW (grid0.coords t) x (ix2 r k) = x (ix2 b k) := by
  unfold grpW
  show x ((Rect.unit (s := S16x1536) (k0_off2 (grid0.coords t)) S8x1536.size (k0_off2_inb (grid0.coords t))).emb (ix2 r k : S8x1536.Idx)) = _
  congr 1
  have o0 : k0_off2 (grid0.coords t) 0 = 8 * (t.val / 256) := congrFun (off2_eq t) 0
  have o1 : k0_off2 (grid0.coords t) 1 = 0 := congrFun (off2_eq t) 1
  funext a
  match a with
  | 0 =>
    apply Fin.ext
    show k0_off2 (grid0.coords t) 0 + 1 * r.val = b.val
    rw [o0]; omega
  | 1 =>
    apply Fin.ext
    show k0_off2 (grid0.coords t) 1 + 1 * k.val = k.val
    rw [o1]; omega

omit hs in
theorem pay4_apply (x : Vec Ideal S8x128 .f32) (u : Fin 1) (l : Fin 128) :
    k0_pay4 (F := Ideal) (grid0.coords t) x (ix2 u l) = x (ix2 ⟨b.val % 8, Nat.mod_lt _ (by decide)⟩ l) := by
  unfold k0_pay4
  dsimp only
  rw [shapeCast_a_1a_apply, subSum128_apply]
  have hc : BitVec.ofNat 32 (grid0.coords t 0).val = BitVec.ofNat 32 b.val := by rw [(coords_val t).1, hb]
  rw [hc]
  exact pick_sum b (fun r => x (ix2 r l))

/-- Row `q` of the scale column is the batch row's scale number `128 s + q`. -/
theorem scol_apply (x : Vec Ideal S16x4096 .f32) (q : Fin 128) (l : Fin 128) :
    scol (grid0.coords t) x (ix2 q l) = x (ix2 b (row s q)) := by
  unfold scol k0_pay5
  dsimp only
  rw [shapeCast_apply _ _ _ (ix2 q l : S128x128.Idx) rfl, transpose_ix2_apply, broadcastTo_1b_ab_apply,
    shapeCast_apply _ _ _ (ix2 0 q : S1x128.Idx) rfl, pay4_apply t b hb]
  exact grp_apply t b s hb hs x _ q rfl

omit hs in
theorem wrow_apply (I : Ins Ideal) (k : Fin 1536) :
    wrow (grid0.coords t) I (ix2 0 k) = (Ideal.ofBits .f32 0x3F800000#32 + I.x7 (ix2 b k) : EReal) := by
  unfold wrow k0_pay12
  dsimp only
  rw [addf_apply, shapeCast_a_1a_apply, subSum_apply]
  congr 1
  have hc : BitVec.ofNat 32 (grid0.coords t 0).val = BitVec.ofNat 32 b.val := by rw [(coords_val t).1, hb]
  rw [hc]
  exact (pick_sum b (fun r => grpW (grid0.coords t) I.x7 (ix2 r k))).trans (grpW_apply t b hb I.x7 _ k rfl)

/-! ## The rows of the block -/

section chunk
variable (o : Nat) (h : o + 32 ≤ 128) (I : Ins Ideal) (r : Fin 32) (k : Fin 1536)

theorem bX_apply : bX o h (grid0.coords t) I (ix2 r k) = iX b s I (at_ o h r) k := by
  unfold bX
  show (shapeCast S32x1536 (rowsCut o h I.x0) shapeCasts_S1x32x1536_S32x1536 (ix2 r k) : EReal)
    * broadcastTo S32x1536 (colCut o h (scol (grid0.coords t) I.x1)) broadcasts_S32x1_S32x1536 (ix2 r k) = _
  rw [shapeCast_1ab_ab_apply, spread_apply, rowsCut_apply, colCut_apply, scol_apply t b s hb hs]
  rfl
theorem bDY_apply : bDY o h (grid0.coords t) I (ix2 r k) = iDY b s I (at_ o h r) k := by
  unfold bDY
  show (shapeCast S32x1536 (rowsCut o h I.x3) shapeCasts_S1x32x1536_S32x1536 (ix2 r k) : EReal)
    * broadcastTo S32x1536 (colCut o h (scol (grid0.coords t) I.x4)) broadcasts_S32x1_S32x1536 (ix2 r k) = _
  rw [shapeCast_1ab_ab_apply, spread_apply, rowsCut_apply, colCut_apply, scol_apply t b s hb hs]
  rfl
theorem bDH_apply : bDH o h (grid0.coords t) I (ix2 r k) = iDH b s I (at_ o h r) k := by
  unfold bDH
  show (shapeCast S32x1536 (rowsCut o h I.x5) shapeCasts_S1x32x1536_S32x1536 (ix2 r k) : EReal)
    * broadcastTo S32x1536 (colCut o h (scol (grid0.coords t) I.x6)) broadcasts_S32x1_S32x1536 (ix2 r k) = _
  rw [shapeCast_1ab_ab_apply, spread_apply, rowsCut_apply, colCut_apply, scol_apply t b s hb hs]
  rfl
theorem rowX : rowOf (bX o h (grid0.coords t) I) r = iX b s I (at_ o h r) := funext fun k => bX_apply t b s hb hs o h I r k
theorem rowDY : rowOf (bDY o h (grid0.coords t) I) r = iDY b s I (at_ o h r) := funext fun k => bDY_apply t b s hb hs o h I r k
theorem rowDH : rowOf (bDH o h (grid0.coords t) I) r = iDH b s I (at_ o h r) := funext fun k => bDH_apply t b s hb hs o h I r k
omit hs in
theorem rowW : (fun k => wrow (grid0.coords t) I (ix2 0 k)) = iW b I := funext fun k => wrow_apply t b hb I k

theorem bDX_apply : bDX o h (grid0.coords t) I (ix2 r k) = iGrad b s I (at_ o h r) k := by
  unfold bDX
  rw [pay26_apply, rowX t b s hb hs, rowDY t b s hb hs, rowDH t b s hb hs, rowW t b hb]
  rfl
theorem bAmax : k0_pay28 (F := Ideal) (bAbs o h (grid0.coords t) I) (ix2 r 0) = amax (iGrad b s I (at_ o h r)) := by
  unfold bAbs
  rw [pay28_apply, rowX t b s hb hs, rowDY t b s hb hs, rowDH t b s hb hs, rowW t b hb]
  rfl
theorem bCode_apply (u : Fin 1) : (bCode o h (grid0.coords t) I (ix3 u r k) : EReal) = code (iGrad b s I (at_ o h r)) k := by
  unfold bCode bE
  rw [code_apply, exponent_apply, Expo.inv_eq, bAmax t b s hb hs, bDX_apply t b s hb hs]
  rfl
theorem bScale_apply (l : Fin 128) : (bScale o h (grid0.coords t) I (ix2 r l) : EReal) = scale (iGrad b s I (at_ o h r)) := by
  unfold bScale
  rw [scale_apply, bAmax t b s hb hs]
  rfl

variable (a : FVec Ideal S8x1536 .f32) (q : Fin 8)
theorem stepShift_apply : (stepShift o h (grid0.coords t) I a (ix2 q k) : EReal)
    = a (ix2 q k) + ∑ g : Fin 4, colTerm 0 (iX b s I (at_ o h (sub g q))) (iDY b s I (at_ o h (sub g q))) (iDH b s I (at_ o h (sub g q))) (iF I (at_ o h (sub g q))) k := by
  unfold stepShift
  rw [pay23_apply]
  simp only [bDH_apply t b s hb hs]
  rfl
theorem stepScal_apply : (stepScal o h (grid0.coords t) I a (ix2 q k) : EReal)
    = a (ix2 q k) + ∑ g : Fin 4, colTerm 1 (iX b s I (at_ o h (sub g q))) (iDY b s I (at_ o h (sub g q))) (iDH b s I (at_ o h (sub g q))) (iF I (at_ o h (sub g q))) k := by
  unfold stepScal
  rw [pay24_apply]
  simp only [bDH_apply t b s hb hs, rowX t b s hb hs]
  rfl
theorem stepGate_apply : (stepGate o h (grid0.coords t) I a (ix2 q k) : EReal)
    = a (ix2 q k) + ∑ g : Fin 4, colTerm 2 (iX b s I (at_ o h (sub g q))) (iDY b s I (at_ o h (sub g q))) (iDH b s I (at_ o h (sub g q))) (iF I (at_ o h (sub g q))) k := by
  unfold stepGate
  rw [pay25_apply]
  simp only [bDY_apply t b s hb hs, bF_apply]
  rfl
end chunk

/-! ## The block's sums, codes and scales -/

section block
variable (I : Ins Ideal)

theorem bShift_sum (k : Fin 1536) : ∑ q : Fin 8, (bShift (grid0.coords t) I (ix2 q k) : EReal) = colSum b s I 0 k := by
  unfold bShift colSum
  rw [← chunked_sum]
  refine Finset.sum_congr rfl fun q _ => ?_
  rw [stepShift_apply t b s hb hs, stepShift_apply t b s hb hs, stepShift_apply t b s hb hs, stepShift_apply t b s hb hs, zeros_apply]
theorem bScal_sum (k : Fin 1536) : ∑ q : Fin 8, (bScal (grid0.coords t) I (ix2 q k) : EReal) = colSum b s I 1 k := by
  unfold bScal colSum
  rw [← chunked_sum]
  refine Finset.sum_congr rfl fun q _ => ?_
  rw [stepScal_apply t b s hb hs, stepScal_apply t b s hb hs, stepScal_apply t b s hb hs, stepScal_apply t b s hb hs]
  rw [show (k0_pay14 (F := Ideal) (ix2 q k) : EReal) = 0 from ofBits_zero_f32]
theorem bGate_sum (k : Fin 1536) : ∑ q : Fin 8, (bGate (grid0.coords t) I (ix2 q k) : EReal) = colSum b s I 2 k := by
  unfold bGate colSum
  rw [← chunked_sum]
  refine Finset.sum_congr rfl fun q _ => ?_
  rw [stepGate_apply t b s hb hs, stepGate_apply t b s hb hs, stepGate_apply t b s hb hs, stepGate_apply t b s hb hs]
  rw [show (k0_pay15 (F := Ideal) (ix2 q k) : EReal) = 0 from ofBits_zero_f32]

theorem bBlk_apply (j : Fin 3) (k : Fin 1536) : (bBlk (grid0.coords t) I (ix2 j k) : EReal) = colSum b s I j k := by
  unfold bBlk k0_pay112
  dsimp only
  concat_tiles i h
  all_goals
    have hi : i = ix2 0 k := funext fun a => match a with
      | 0 => Fin.ext h0 | 1 => Fin.ext h1
    subst hi
    rw [shapeCast_a_1a_apply, subSum_apply]
  · obtain rfl : j = 0 := Fin.ext h
    exact bShift_sum t b s hb hs I k
  · obtain rfl : j = 1 := Fin.ext h
    exact bScal_sum t b s hb hs I k
  · obtain rfl : j = 2 := Fin.ext h
    exact bGate_sum t b s hb hs I k

theorem bCode_at (o : Nat) (h : o + 32 ≤ 128) (x : S1x32x1536.Idx) (q : Fin 128) (k : Fin 1536)
    (h1 : q.val = o + (x 1).val) (h2 : k.val = (x 2).val) : (bCode o h (grid0.coords t) I x : EReal) = code (iGrad b s I q) k := by
  obtain ⟨u, hu⟩ : ∃ u : Fin 1, u = x 0 := ⟨_, rfl⟩
  obtain ⟨r, hr⟩ : ∃ r : Fin 32, r = x 1 := ⟨_, rfl⟩
  have hx : x = ix3 u r k := funext fun a => match a with
    | 0 => hu.symm | 1 => hr.symm | 2 => Fin.ext h2.symm
  rw [← hr] at h1
  subst hx
  rw [bCode_apply t b s hb hs, show q = at_ o h r from Fin.ext h1]
theorem bScale_at (o : Nat) (h : o + 32 ≤ 128) (x : S32x128.Idx) (q : Fin 128) (h1 : q.val = o + (x 0).val) :
    (bScale o h (grid0.coords t) I x : EReal) = scale (iGrad b s I q) := by
  obtain ⟨r, hr⟩ : ∃ r : Fin 32, r = x 0 := ⟨_, rfl⟩
  obtain ⟨l, hl⟩ : ∃ l : Fin 128, l = x 1 := ⟨_, rfl⟩
  have hx : x = ix2 r l := funext fun a => match a with
    | 0 => hr.symm | 1 => hl.symm
  rw [← hr] at h1
  subst hx
  rw [bScale_apply t b s hb hs, show q = at_ o h r from Fin.ext h1]

/-- The block's codes are its rows' codes, -/
theorem bCodes_apply (q : Fin 128) (k : Fin 1536) : (bCodes (grid0.coords t) I (ix3 0 q k) : EReal) = code (iGrad b s I q) k := by
  unfold bCodes
  canon_tiles x h
  · exact bCode_at t b s hb hs I 96 _ x q k h1 h2
  · exact bCode_at t b s hb hs I 64 _ x q k h1 h2
  · exact bCode_at t b s hb hs I 32 _ x q k h1 h2
  · exact bCode_at t b s hb hs I 0 _ x q k (h1.trans (Nat.zero_add _).symm) h2
/-- and its scales their scales. -/
theorem bScales_apply (q : Fin 128) (l : Fin 128) : (bScales (grid0.coords t) I (ix2 q l) : EReal) = scale (iGrad b s I q) := by
  unfold bScales
  canon_tiles x h
  · exact bScale_at t b s hb hs I 96 _ x q h0
  · exact bScale_at t b s hb hs I 64 _ x q h0
  · exact bScale_at t b s hb hs I 32 _ x q h0
  · exact bScale_at t b s hb hs I 0 _ x q (h0.trans (Nat.zero_add _).symm)

end block

end Cert.KernelIdeal.Hand

end
-- ==== Proof.RefRun.lean ====
/- The run of `ReferenceIdeal` with its four results named. The reference is one grid point whose windows are whole
   arrays, so each result array ends as the body's stored value (`G8` … `G11`, the payloads of the skeleton) of the
   argument arrays, and the arguments end as launched. -/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- What the point writes back to output window 8's array. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t) (iblk m c 7 t)) := by
  show (cfg0.win 8).cut (grid0.coords t) ((dats m 0 c).after 8 t) = _
  rw [after0_8]

/-- What the point writes back to output window 9's array. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t) (iblk m c 7 t)) := by
  show (cfg0.win 9).cut (grid0.coords t) ((dats m 0 c).after 9 t) = _
  rw [after0_9]

/-- What the point writes back to output window 10's array. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t)) := by
  show (cfg0.win 10).cut (grid0.coords t) ((dats m 0 c).after 10 t) = _
  rw [after0_10]

/-- What the point writes back to output window 11's array. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t)) := by
  show (cfg0.win 11).cut (grid0.coords t) ((dats m 0 c).after 11 t) = _
  rw [after0_11]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_2) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_3) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S16x4096x1536.Idx) : ((cfg0.win 0).blk t).view.emb j = j := by
  obtain ⟨e0, e1, e2⟩ := idx_zero0 t
  funext a; apply Fin.ext
  match a with
  | ⟨0, _⟩ => show win0_0.index t (0 : Fin 3) * 16 + 1 * (j 0).val = (j 0).val; omega
  | ⟨1, _⟩ => show win0_0.index t (1 : Fin 3) * 4096 + 1 * (j 1).val = (j 1).val; omega
  | ⟨2, _⟩ => show win0_0.index t (2 : Fin 3) * 1536 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S16x4096.Idx) : ((cfg0.win 1).blk t).view.emb j = j := by
  obtain ⟨e0, e1⟩ := idx_zero1 t
  funext a; apply Fin.ext
  match a with
  | ⟨0, _⟩ => show win0_1.index t (0 : Fin 2) * 16 + 1 * (j 0).val = (j 0).val; omega
  | ⟨1, _⟩ => show win0_1.index t (1 : Fin 2) * 4096 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S16x4096x1536.Idx) : ((cfg0.win 2).blk t).view.emb j = j := by
  obtain ⟨e0, e1, e2⟩ := idx_zero2 t
  funext a; apply Fin.ext
  match a with
  | ⟨0, _⟩ => show win0_2.index t (0 : Fin 3) * 16 + 1 * (j 0).val = (j 0).val; omega
  | ⟨1, _⟩ => show win0_2.index t (1 : Fin 3) * 4096 + 1 * (j 1).val = (j 1).val; omega
  | ⟨2, _⟩ => show win0_2.index t (2 : Fin 3) * 1536 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S16x4096x1536.Idx) : ((cfg0.win 3).blk t).view.emb j = j := by
  obtain ⟨e0, e1, e2⟩ := idx_zero3 t
  funext a; apply Fin.ext
  match a with
  | ⟨0, _⟩ => show win0_3.index t (0 : Fin 3) * 16 + 1 * (j 0).val = (j 0).val; omega
  | ⟨1, _⟩ => show win0_3.index t (1 : Fin 3) * 4096 + 1 * (j 1).val = (j 1).val; omega
  | ⟨2, _⟩ => show win0_3.index t (2 : Fin 3) * 1536 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S16x4096.Idx) : ((cfg0.win 4).blk t).view.emb j = j := by
  obtain ⟨e0, e1⟩ := idx_zero4 t
  funext a; apply Fin.ext
  match a with
  | ⟨0, _⟩ => show win0_4.index t (0 : Fin 2) * 16 + 1 * (j 0).val = (j 0).val; omega
  | ⟨1, _⟩ => show win0_4.index t (1 : Fin 2) * 4096 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S16x4096x1536.Idx) : ((cfg0.win 5).blk t).view.emb j = j := by
  obtain ⟨e0, e1, e2⟩ := idx_zero5 t
  funext a; apply Fin.ext
  match a with
  | ⟨0, _⟩ => show win0_5.index t (0 : Fin 3) * 16 + 1 * (j 0).val = (j 0).val; omega
  | ⟨1, _⟩ => show win0_5.index t (1 : Fin 3) * 4096 + 1 * (j 1).val = (j 1).val; omega
  | ⟨2, _⟩ => show win0_5.index t (2 : Fin 3) * 1536 + 1 * (j 2).val = (j 2).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S16x4096.Idx) : ((cfg0.win 6).blk t).view.emb j = j := by
  obtain ⟨e0, e1⟩ := idx_zero6 t
  funext a; apply Fin.ext
  match a with
  | ⟨0, _⟩ => show win0_6.index t (0 : Fin 2) * 16 + 1 * (j 0).val = (j 0).val; omega
  | ⟨1, _⟩ => show win0_6.index t (1 : Fin 2) * 4096 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S16x1536.Idx) : ((cfg0.win 7).blk t).view.emb j = j := by
  obtain ⟨e0, e1⟩ := idx_zero7 t
  funext a; apply Fin.ext
  match a with
  | ⟨0, _⟩ => show win0_7.index t (0 : Fin 2) * 16 + 1 * (j 0).val = (j 0).val; omega
  | ⟨1, _⟩ => show win0_7.index t (1 : Fin 2) * 1536 + 1 * (j 1).val = (j 1).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S16x3x1536.Idx) : ((cfg0.win 8).blk t).view.emb j = j := by
  obtain ⟨e0, e1, e2⟩ := idx_zero8 t
  funext a; apply Fin.ext
  match a with
  | ⟨0, _⟩ => show win0_8.index t (0 : Fin 3) * 16 + 1 * (j 0).val = (j 0).val; omega
  | ⟨1, _⟩ => show win0_8.index t (1 : Fin 3) * 3 + 1 * (j 1).val = (j 1).val; omega
  | ⟨2, _⟩ => show win0_8.index t (2 : Fin 3) * 1536 + 1 * (j 2).val = (j 2).val; omega

theorem hz9 : (![0, 0, 0, 0] : Fin 4 → Nat) = fun _ => 0 := funext fun a => by fin_cases a <;> rfl

/-- Window 9's block index at the one point is zero on every axis. -/
theorem idx_zero9 : ∀ t : Fin cfg0.N, win0_9.index t (0 : Fin 4) = 0 ∧ win0_9.index t (1 : Fin 4) = 0 ∧ win0_9.index t (2 : Fin 4) = 0 ∧ win0_9.index t (3 : Fin 4) = 0 :=
  (by decide +kernel : ∀ t : Fin grid0.N, _)

/-- An index of window 9's block is the same index of its array. -/
theorem emb9 (t : Fin cfg0.N) (j : S16x32x3x1536.Idx) : ((cfg0.win 9).blk t).view.emb j = j := by
  obtain ⟨e0, e1, e2, e3⟩ := idx_zero9 t
  funext a; apply Fin.ext
  match a with
  | ⟨0, _⟩ => show win0_9.index t (0 : Fin 4) * 16 + 1 * (j 0).val = (j 0).val; omega
  | ⟨1, _⟩ => show win0_9.index t (1 : Fin 4) * 32 + 1 * (j 1).val = (j 1).val; omega
  | ⟨2, _⟩ => show win0_9.index t (2 : Fin 4) * 3 + 1 * (j 2).val = (j 2).val; omega
  | ⟨3, _⟩ => show win0_9.index t (3 : Fin 4) * 1536 + 1 * (j 3).val = (j 3).val; omega

theorem hz10 : (![0, 0, 0] : Fin 3 → Nat) = fun _ => 0 := funext fun a => by fin_cases a <;> rfl

/-- Window 10's block index at the one point is zero on every axis. -/
theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)

/-- An index of window 10's block is the same index of its array. -/
theorem emb10 (t : Fin cfg0.N) (j : S16x4096x1536.Idx) : ((cfg0.win 10).blk t).view.emb j = j := by
  obtain ⟨e0, e1, e2⟩ := idx_zero10 t
  funext a; apply Fin.ext
  match a with
  | ⟨0, _⟩ => show win0_10.index t (0 : Fin 3) * 16 + 1 * (j 0).val = (j 0).val; omega
  | ⟨1, _⟩ => show win0_10.index t (1 : Fin 3) * 4096 + 1 * (j 1).val = (j 1).val; omega
  | ⟨2, _⟩ => show win0_10.index t (2 : Fin 3) * 1536 + 1 * (j 2).val = (j 2).val; omega

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S16x4096.Idx) : ((cfg0.win 11).blk t).view.emb j = j := by
  obtain ⟨e0, e1⟩ := idx_zero11 t
  funext a; apply Fin.ext
  match a with
  | ⟨0, _⟩ => show win0_11.index t (0 : Fin 2) * 16 + 1 * (j 0).val = (j 0).val; omega
  | ⟨1, _⟩ => show win0_11.index t (1 : Fin 2) * 4096 + 1 * (j 1).val = (j 1).val; omega

/-! ### Output window 8: the array after the run -/

/-- What the window's array ends holding: `out0_8` applied to the argument arrays in place of the input blocks (a value that the
    frame states apart, `kK_payN a…`, keeps its loads inside its own definition). -/
abbrev G8 (a0 : Vec F S16x4096x1536 .fp8e4m3) (a1 : Vec F S16x4096 .f32) (a2 : Vec F S16x4096x1536 .bf16) (a3 : Vec F S16x4096x1536 .fp8e5m2) (a4 : Vec F S16x4096 .f32) (a5 : Vec F S16x4096x1536 .fp8e5m2) (a6 : Vec F S16x4096 .f32) (a7 : Vec F S16x1536 .f32) : Vec F S16x3x1536 .f32 :=
  k0_pay12 (k0_pay15 a0 a1 a2 a3 a4 a5 a6 a7) (k0_pay19 a0 a1 a2 a3 a4 a5 a6 a7) (k0_pay20 a0 a1 a2 a3 a4 a5 a6 a7) a2

/-- A load of the whole of a block reads the block, and the one store through the whole rectangle leaves its payload. -/
theorem out8_eq (a0 : Vec F S16x4096x1536 .fp8e4m3) (a1 : Vec F S16x4096 .f32) (a2 : Vec F S16x4096x1536 .bf16) (a3 : Vec F S16x4096x1536 .fp8e5m2) (a4 : Vec F S16x4096 .f32) (a5 : Vec F S16x4096x1536 .fp8e5m2) (a6 : Vec F S16x4096 .f32) (a7 : Vec F S16x1536 .f32) : out0_8 (F := F) a0 a1 a2 a3 a4 a5 a6 a7 = G8 a0 a1 a2 a3 a4 a5 a6 a7 := by
  unfold out0_8
  rw [View.canon_unit_zero hz8, View.ld_unit_zero (S := S16x4096x1536) hz2 _ a2]

/-- Cutting the point's block out of `X` and reading `X` through the block's view give the same. -/
theorem cut8_eq (t : Fin cfg0.N) (X : Vec F S16x3x1536 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6) (V m c main_arg7)) := by
  show (cfg0.win 8).cut (grid0.coords t) ((dats m 0 c).after 8 t) = _
  rw [after0_8, out8_eq, iblk0_eq, iblk1_eq, iblk2_eq, iblk3_eq, iblk4_eq, iblk5_eq, iblk6_eq, iblk7_eq]
  exact cut8_eq t _

/-- Every index of the array is in the point's block. -/
theorem covered8 (i : S16x3x1536.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 8 (G8 (V m c main_arg0) (V m c main_arg1) (V m c main_arg2) (V m c main_arg3) (V m c main_arg4) (V m c main_arg5) (V m c main_arg6) (V m c main_arg7)) (fun t _ => flushed8_eq m c t) covered8).trans (by rw [V_main_arg0, V_main_arg1, V_main_arg2, V_main_arg3, V_main_arg4, V_main_arg5, V_main_arg6, V_main_arg7])

/-! ### Output window 9: the array after the run -/

/-- What the window's array ends holding: `out0_9` applied to the argument arrays in place of the input blocks (a value that the
    frame states apart, `kK_payN a…`, keeps its loads inside its own definition). -/
abbrev G9 (a0 : Vec F S16x4096x1536 .fp8e4m3) (a1 : Vec F S16x4096 .f32) (a2 : Vec F S16x4096x1536 .bf16) (a3 : Vec F S16x4096x1536 .fp8e5m2) (a4 : Vec F S16x4096 .f32) (a5 : Vec F S16x4096x1536 .fp8e5m2) (a6 : Vec F S16x4096 .f32) (a7 : Vec F S16x1536 .f32) : Vec F S16x32x3x1536 .f32 :=
  k0_pay11 (k0_pay15 a0 a1 a2 a3 a4 a5 a6 a7) (k0_pay19 a0 a1 a2 a3 a4 a5 a6 a7) (k0_pay20 a0 a1 a2 a3 a4 a5 a6 a7) a2

/-- A load of the whole of a block reads the block, and the one store through the whole rectangle leaves its payload. -/
theorem out9_eq (a0 : Vec F S16x4096x1536 .fp8e4m3) (a1 : Vec F S16x4096 .f32) (a2 : Vec F S16x4096x1536 .bf16) (a3 : Vec F S16x4096x1536 .fp8e5m2) (a4 : Vec F S16x4096 .f32) (a5 : Vec F S16x4096x1536 .fp8e5m2) (a6 : Vec F S16x4096 .f32) (a7 : Vec F S16x1536 .f32) : out0_9 (F := F) a0 a1 a2 a3 a4 a5 a6 a7 = G9 a0 a1 a2 a3 a4 a5 a6 a7 := by
  unfold out0_9
  rw [View.canon_unit_zero hz9, View.ld_unit_zero (S := S16x4096x1536) hz2 _ a2]

/-- Cutting the point's block out of `X` and reading `X` through the block's view give the same. -/
theorem cut9_eq (t : Fin cfg0.N) (X : Vec F S16x32x3x1536 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6) (V m c main_arg7)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq]
  exact cut9_eq t _

/-- Every index of the array is in the point's block. -/
theorem covered9 (i : S16x32x3x1536.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 9 (G9 (V m c main_arg0) (V m c main_arg1) (V m c main_arg2) (V m c main_arg3) (V m c main_arg4) (V m c main_arg5) (V m c main_arg6) (V m c main_arg7)) (fun t _ => flushed9_eq m c t) covered9).trans (by rw [V_main_arg0, V_main_arg1, V_main_arg2, V_main_arg3, V_main_arg4, V_main_arg5, V_main_arg6, V_main_arg7])

/-! ### Output window 10: the array after the run -/

/-- What the window's array ends holding: `out0_10` applied to the argument arrays in place of the input blocks (a value that the
    frame states apart, `kK_payN a…`, keeps its loads inside its own definition). -/
abbrev G10 (a0 : Vec F S16x4096x1536 .fp8e4m3) (a1 : Vec F S16x4096 .f32) (a2 : Vec F S16x4096x1536 .bf16) (a3 : Vec F S16x4096x1536 .fp8e5m2) (a4 : Vec F S16x4096 .f32) (a5 : Vec F S16x4096x1536 .fp8e5m2) (a6 : Vec F S16x4096 .f32) (a7 : Vec F S16x1536 .f32) : Vec F S16x4096x1536 .fp8e5m2 :=
  k0_pay3 (k0_pay13 (k0_pay15 a0 a1 a2 a3 a4 a5 a6 a7) (k0_pay16 a0 a1 a2 a3 a4 a5 a6 a7) (k0_pay17 a0 a1 a2 a3 a4 a5 a6 a7) (k0_pay18 a0 a1 a2 a3 a4 a5 a6 a7) a7) (k0_pay21 a0 a1 a2 a3 a4 a5 a6 a7)

/-- A load of the whole of a block reads the block, and the one store through the whole rectangle leaves its payload. -/
theorem out10_eq (a0 : Vec F S16x4096x1536 .fp8e4m3) (a1 : Vec F S16x4096 .f32) (a2 : Vec F S16x4096x1536 .bf16) (a3 : Vec F S16x4096x1536 .fp8e5m2) (a4 : Vec F S16x4096 .f32) (a5 : Vec F S16x4096x1536 .fp8e5m2) (a6 : Vec F S16x4096 .f32) (a7 : Vec F S16x1536 .f32) : out0_10 (F := F) a0 a1 a2 a3 a4 a5 a6 a7 = G10 a0 a1 a2 a3 a4 a5 a6 a7 := by
  unfold out0_10
  rw [View.canon_unit_zero hz10, View.ld_unit_zero (S := S16x1536) hz7 _ a7]

/-- Cutting the point's block out of `X` and reading `X` through the block's view give the same. -/
theorem cut10_eq (t : Fin cfg0.N) (X : Vec F S16x4096x1536 .fp8e5m2) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq]
  exact cut10_eq t _

/-- Every index of the array is in the point's block. -/
theorem covered10 (i : S16x4096x1536.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 10 (G10 (V m c main_arg0) (V m c main_arg1) (V m c main_arg2) (V m c main_arg3) (V m c main_arg4) (V m c main_arg5) (V m c main_arg6) (V m c main_arg7)) (fun t _ => flushed10_eq m c t) covered10).trans (by rw [V_main_arg0, V_main_arg1, V_main_arg2, V_main_arg3, V_main_arg4, V_main_arg5, V_main_arg6, V_main_arg7])

/-! ### Output window 11: the array after the run -/

/-- What the window's array ends holding: `out0_11` applied to the argument arrays in place of the input blocks (a value that the
    frame states apart, `kK_payN a…`, keeps its loads inside its own definition). -/
abbrev G11 (a0 : Vec F S16x4096x1536 .fp8e4m3) (a1 : Vec F S16x4096 .f32) (a2 : Vec F S16x4096x1536 .bf16) (a3 : Vec F S16x4096x1536 .fp8e5m2) (a4 : Vec F S16x4096 .f32) (a5 : Vec F S16x4096x1536 .fp8e5m2) (a6 : Vec F S16x4096 .f32) (a7 : Vec F S16x1536 .f32) : Vec F S16x4096 .f32 :=
  k0_pay2 (k0_pay21 a0 a1 a2 a3 a4 a5 a6 a7)

/-- The one store through the whole rectangle leaves its payload. -/
theorem out11_eq (a0 : Vec F S16x4096x1536 .fp8e4m3) (a1 : Vec F S16x4096 .f32) (a2 : Vec F S16x4096x1536 .bf16) (a3 : Vec F S16x4096x1536 .fp8e5m2) (a4 : Vec F S16x4096 .f32) (a5 : Vec F S16x4096x1536 .fp8e5m2) (a6 : Vec F S16x4096 .f32) (a7 : Vec F S16x1536 .f32) : out0_11 (F := F) a0 a1 a2 a3 a4 a5 a6 a7 = G11 a0 a1 a2 a3 a4 a5 a6 a7 := by
  unfold out0_11
  rw [View.canon_unit_zero hz11]

/-- Cutting the point's block out of `X` and reading `X` through the block's view give the same. -/
theorem cut11_eq (t : Fin cfg0.N) (X : Vec F S16x4096 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq]
  exact cut11_eq t _

/-- Every index of the array is in the point's block. -/
theorem covered11 (i : S16x4096.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 11 (G11 (V m c main_arg0) (V m c main_arg1) (V m c main_arg2) (V m c main_arg3) (V m c main_arg4) (V m c main_arg5) (V m c main_arg6) (V m c main_arg7)) (fun t _ => flushed11_eq m c t) covered11).trans (by rw [V_main_arg0, V_main_arg1, V_main_arg2, V_main_arg3, V_main_arg4, V_main_arg5, V_main_arg6, V_main_arg7])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_1) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_2) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_3) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ReferenceIdeal.Hand

end
-- ==== Proof.RefValue.lean ====
/- What the reference's result arrays hold, element by element, in terms of the row mathematics. -/
module

public import proofs.«01_k».proof.Proof.RefRun
public import proofs.«01_k».proof.Proof.RowModel
public import Idealize.ShloMosaic.Lib.ValueIdx
public import Idealize.ShloMosaic.Lib.ValueLayout
public import Idealize.ShloMosaic.Lib.ValueLayoutCasts
public import Idealize.ShloMosaic.Lib.Pipeline.ValueKit.Tiles

@[expose] public section

set_option maxRecDepth 16384

noncomputable section

namespace Cert.ReferenceIdeal.Hand

open Cert.ReferenceIdeal.Gen Cert.Row
open Idealize.ShloMosaic Idealize.ShloMosaic.TcCoe Idealize.ShloMosaic.ValueIdx Idealize.ShloMosaic.Ideal

/-! ## The layout operations, read at an index -/

theorem col_apply (x : FVec Ideal S16x4096 .f32) (b : Fin 16) (r : Fin 4096) (u : Fin 1) :
    shapeCast S16x4096x1 x shapeCasts_S16x4096_S16x4096x1 (ix3 b r u) = x (ix2 b r) :=
  shapeCast_apply _ _ _ _ (by
    rw [Shape.rowMajor_val_three, Shape.rowMajor_val_two]
    show b.val * 4096 + r.val = (b.val * 4096 + r.val) * 1 + u.val
    omega)
theorem spread_apply (x : FVec Ideal S16x4096x1 .f32) (b : Fin 16) (r : Fin 4096) (k : Fin 1536) :
    broadcastTo S16x4096x1536 x broadcasts_S16x4096x1_S16x4096x1536 (ix3 b r k) = x (ix3 b r 0) :=
  broadcastTo_apply _ _ _ _ fun a => match a with | 0 => rfl | 1 => rfl | 2 => rfl
theorem wspread_apply (x : FVec Ideal S16x1536 .f32) (b : Fin 16) (r : Fin 4096) (k : Fin 1536) :
    broadcastTo S16x4096x1536 (shapeCast S16x1x1536 x shapeCasts_S16x1536_S16x1x1536) broadcasts_S16x1x1536_S16x4096x1536 (ix3 b r k) = x (ix2 b k) := by
  rw [broadcastTo_apply _ _ _ (ix3 b 0 k : S16x1x1536.Idx) fun a => match a with | 0 => rfl | 1 => rfl | 2 => rfl]
  exact shapeCast_apply _ _ _ _ (by
    rw [Shape.rowMajor_val_three, Shape.rowMajor_val_two]
    show b.val * 1536 + k.val = (b.val * 1 + 0) * 1536 + k.val
    omega)
theorem rowSum_apply (x : FVec Ideal S16x4096x1536 .f32) (b : Fin 16) (r : Fin 4096) :
    multiReduction .add [2] S16x4096 x 0x00000000#32 reduces_S16x4096x1536_S16x4096 (.inl rfl) rfl (ix2 b r) = ∑ k, x (ix3 b r k) := by
  refine (multiReduction_add_single _ _ _ _ _ _).trans ?_
  exact Finset.sum_congr rfl fun k _ => congrArg x (funext fun a => match a with | 0 => rfl | 1 => rfl | 2 => rfl)
theorem rowMax_apply (x : FVec Ideal S16x4096x1536 .f32) (b : Fin 16) (r : Fin 4096) :
    multiReduction .maximumf [2] S16x4096 x 0xFF800000#32 reduces_S16x4096x1536_S16x4096 (.inl rfl) rfl (ix2 b r)
      = (Finset.univ : Finset (Fin 1536)).fold max (Ideal.ofBits .f32 0xFF800000#32) (fun k => x (ix3 b r k)) := by
  refine (multiReduction_maximumf_single _ _ _ _ _ _).trans ?_
  exact congrArg (Finset.fold max _ · _) (funext fun k => congrArg x (funext fun a => match a with | 0 => rfl | 1 => rfl | 2 => rfl))
theorem blockSum_apply (x : FVec Ideal S16x4096x1536 .f32) (b : Fin 16) (s : Fin 32) (k : Fin 1536) :
    multiReduction .add [2] S16x32x1536 (shapeCast S16x32x128x1536 x shapeCasts_S16x4096x1536_S16x32x128x1536) 0x00000000#32
        reduces_S16x32x128x1536_S16x32x1536 (.inl rfl) rfl (ix3 b s k)
      = ∑ r : Fin 128, x (ix3 b ⟨128 * s.val + r.val, by have := s.isLt; have := r.isLt; omega⟩ k) := by
  refine (multiReduction_add_single _ _ _ _ _ _).trans ?_
  refine Finset.sum_congr rfl fun (r : Fin 128) _ => ?_
  refine shapeCast_apply _ _ _ _ ?_
  have e : (reduces_S16x32x128x1536_S16x32x1536).lift (ix3 b s k) r = ix4 b s r k :=
    funext fun a => match a with | 0 => rfl | 1 => rfl | 2 => rfl | 3 => rfl
  rw [e, Shape.rowMajor_val_three, Shape.rowMajor_val_four]
  show (b.val * 4096 + (128 * s.val + r.val)) * 1536 + k.val = ((b.val * 32 + s.val) * 128 + r.val) * 1536 + k.val
  omega
theorem stepSum_apply (x : FVec Ideal S16x32x3x1536 .f32) (b : Fin 16) (j : Fin 3) (k : Fin 1536) :
    multiReduction .add [1] S16x3x1536 x 0x00000000#32 reduces_S16x32x3x1536_S16x3x1536 (.inl rfl) rfl (ix3 b j k) = ∑ s, x (ix4 b s j k) := by
  refine (multiReduction_add_single _ _ _ _ _ _).trans ?_
  exact Finset.sum_congr rfl fun s _ => congrArg x (funext fun a => match a with | 0 => rfl | 1 => rfl | 2 => rfl | 3 => rfl)

/-! ## The rows -/

section
variable (a0 : FVec Ideal S16x4096x1536 .fp8e4m3) (a1 : FVec Ideal S16x4096 .f32) (a2 : FVec Ideal S16x4096x1536 .bf16)
  (a3 : FVec Ideal S16x4096x1536 .fp8e5m2) (a4 : FVec Ideal S16x4096 .f32) (a5 : FVec Ideal S16x4096x1536 .fp8e5m2)
  (a6 : FVec Ideal S16x4096 .f32) (a7 : FVec Ideal S16x1536 .f32) (b : Fin 16) (r : Fin 4096) (k : Fin 1536)

/-- The dequantised rows and the modulation row. -/
def rX : Row := fun k => (a0 (ix3 b r k) : EReal) * a1 (ix2 b r)
def rDY : Row := fun k => (a3 (ix3 b r k) : EReal) * a4 (ix2 b r)
def rDH : Row := fun k => (a5 (ix3 b r k) : EReal) * a6 (ix2 b r)
def rF : Row := fun k => a2 (ix3 b r k)
def rW : Row := fun k => Ideal.ofBits .f32 0x3F800000#32 + a7 (ix2 b k)
def rGrad : Row := grad (rX a0 a1 b r) (rDY a3 a4 b r) (rDH a5 a6 b r) (rW a7 b)

theorem pay4_apply : k0_pay4 (F := Ideal) a3 a4 (ix3 b r k) = rDY a3 a4 b r k := by
  show (a3 (ix3 b r k) : EReal) * broadcastTo S16x4096x1536 (shapeCast S16x4096x1 a4 shapeCasts_S16x4096_S16x4096x1) _ (ix3 b r k) = _
  rw [spread_apply, col_apply]; rfl
theorem pay5_apply : k0_pay5 (F := Ideal) a5 a6 (ix3 b r k) = rDH a5 a6 b r k := by
  show (a5 (ix3 b r k) : EReal) * broadcastTo S16x4096x1536 (shapeCast S16x4096x1 a6 shapeCasts_S16x4096_S16x4096x1) _ (ix3 b r k) = _
  rw [spread_apply, col_apply]; rfl
theorem x_apply : mulf (F := Ideal) (extf .f32 a0 bitsLt_fp8e4m3_f32) (broadcastTo S16x4096x1536 (shapeCast S16x4096x1 a1 shapeCasts_S16x4096_S16x4096x1)
    broadcasts_S16x4096x1_S16x4096x1536) (ix3 b r k) = rX a0 a1 b r k := by
  show (a0 (ix3 b r k) : EReal) * broadcastTo S16x4096x1536 (shapeCast S16x4096x1 a1 shapeCasts_S16x4096_S16x4096x1) _ (ix3 b r k) = _
  rw [spread_apply, col_apply]; rfl

/-- A row's mean as the program lays it out: a row sum, put in a column, divided by 1536. -/
theorem mean_apply (x : FVec Ideal S16x4096x1536 .f32) (u : Fin 1) :
    divf (F := Ideal) (shapeCast S16x4096x1 (multiReduction .add [2] S16x4096 x 0x00000000#32 reduces_S16x4096x1536_S16x4096 (.inl rfl) rfl)
      shapeCasts_S16x4096_S16x4096x1) (broadcast S16x4096x1 (Scalar.ofBits .f32 0x44C00000#32)) (ix3 b r u) = mean (fun k => x (ix3 b r k)) := by
  show Ideal.div (shapeCast S16x4096x1 _ _ (ix3 b r u)) _ = _
  rw [col_apply, rowSum_apply]; rfl

theorem pay6_apply : k0_pay6 (F := Ideal) a0 a1 (ix3 b r k) = centred (rX a0 a1 b r) k := by
  unfold k0_pay6
  dsimp only
  rw [subf_apply, spread_apply, mean_apply, x_apply]
  simp only [x_apply]
  rfl
theorem pay7_apply : k0_pay7 (F := Ideal) a0 a1 (ix3 b r 0) = rstd (rX a0 a1 b r) := by
  show Ideal.rsqrt (addf (F := Ideal) _ _ (ix3 b r 0)) = _
  rw [addf_apply, mean_apply]
  simp only [mulf_apply, pay6_apply]
  rfl
theorem pay8_apply : k0_pay8 (F := Ideal) a0 a1 (ix3 b r k) = xhat (rX a0 a1 b r) k := by
  unfold k0_pay8
  rw [mulf_apply, spread_apply, pay6_apply, pay7_apply]
  rfl

theorem g_apply (dh : FVec Ideal S16x4096x1536 .f32) : mulf (F := Ideal) dh (broadcastTo S16x4096x1536 (shapeCast S16x1x1536
      (addf (broadcast S16x1536 (Scalar.ofBits .f32 0x3F800000#32)) a7) shapeCasts_S16x1536_S16x1x1536) broadcasts_S16x1x1536_S16x4096x1536) (ix3 b r k)
    = gw (fun k => dh (ix3 b r k)) (rW a7 b) k := by
  rw [mulf_apply, wspread_apply]; rfl

/-- The gradient's last expression, of any vectors in place of `dy`, `dh * w`, `xhat` and `rstd`. -/
theorem gradExpr_apply (dy g xh : FVec Ideal S16x4096x1536 .f32) (rs : FVec Ideal S16x4096x1 .f32) :
    addf (F := Ideal) dy (mulf (broadcastTo S16x4096x1536 rs broadcasts_S16x4096x1_S16x4096x1536)
      (subf (subf g (broadcastTo S16x4096x1536 (divf (shapeCast S16x4096x1
          (multiReduction .add [2] S16x4096 g 0x00000000#32 reduces_S16x4096x1536_S16x4096 (.inl rfl) rfl) shapeCasts_S16x4096_S16x4096x1)
          (broadcast S16x4096x1 (Scalar.ofBits .f32 0x44C00000#32))) broadcasts_S16x4096x1_S16x4096x1536))
        (mulf xh (broadcastTo S16x4096x1536 (divf (shapeCast S16x4096x1
          (multiReduction .add [2] S16x4096 (mulf g xh) 0x00000000#32 reduces_S16x4096x1536_S16x4096 (.inl rfl) rfl) shapeCasts_S16x4096_S16x4096x1)
          (broadcast S16x4096x1 (Scalar.ofBits .f32 0x44C00000#32))) broadcasts_S16x4096x1_S16x4096x1536)))) (ix3 b r k)
    = (dy (ix3 b r k) + rs (ix3 b r 0) * (g (ix3 b r k) - mean (fun k => g (ix3 b r k)) - xh (ix3 b r k) * mean (fun k => g (ix3 b r k) * xh (ix3 b r k))) : EReal) := by
  rw [addf_apply, mulf_apply, subf_apply, subf_apply, mulf_apply, spread_apply, spread_apply, spread_apply, mean_apply, mean_apply]
  rfl

theorem pay13_apply : k0_pay13 (F := Ideal) (k0_pay4 a3 a4) (k0_pay5 a5 a6) (k0_pay7 a0 a1) (k0_pay8 a0 a1) a7 (ix3 b r k)
    = rGrad a0 a1 a3 a4 a5 a6 a7 b r k := by
  refine (gradExpr_apply b r k (k0_pay4 a3 a4) (mulf (k0_pay5 a5 a6) _) (k0_pay8 a0 a1) (k0_pay7 a0 a1)).trans ?_
  simp only [g_apply, pay4_apply, pay5_apply, pay7_apply, pay8_apply]
  rfl

theorem pay14_apply : k0_pay14 (F := Ideal) (k0_pay4 a3 a4) (k0_pay5 a5 a6) (k0_pay7 a0 a1) (k0_pay8 a0 a1) a7 (ix2 b r)
    = amax (rGrad a0 a1 a3 a4 a5 a6 a7 b r) := by
  unfold k0_pay14
  dsimp only
  rw [rowMax_apply]
  unfold amax
  congr 1
  funext k
  show max (k0_pay13 _ _ _ _ _ _) (-(k0_pay13 _ _ _ _ _ _)) = _
  rw [pay13_apply]

theorem c_neg : Ideal.ofBits .f32 0xC2FC0000#32 = ((-126 : ℝ) : EReal) := by simp [Ideal.ofBits, Ideal.ieee, -EReal.coe_mul]; norm_num
theorem c_pos : Ideal.ofBits .f32 0x42FC0000#32 = ((126 : ℝ) : EReal) := by simp [Ideal.ofBits, Ideal.ieee, -EReal.coe_mul]; norm_num
theorem c_one : Ideal.ofBits .f32 0x3F800000#32 = 1 := by simp [Ideal.ofBits, Ideal.ieee, -EReal.coe_mul]; norm_num

theorem pay1_apply (x : FVec Ideal S16x4096 .f32) (i : S16x4096.Idx) : k0_pay1 (F := Ideal) x i = Expo.expR (x i) (scaled (x i)) := by
  show Scalar.select (Ideal.cmp .oeq (x i) (Ideal.ofBits .f32 0x00000000#32)) (Ideal.ofBits .f32 0x00000000#32)
    (min (Ideal.ofBits .f32 0x42FC0000#32) (max (Ideal.ofBits .f32 0xC2FC0000#32)
      (Ideal.liftRound Int.floor (Ideal.div (Ideal.log (scaled (x i))) ((Real.log 2 : ℝ) : EReal)) + Ideal.ofBits .f32 0x3F800000#32))) = _
  rw [c_neg, c_pos, c_one, ofBits_zero_f32]
  rfl

theorem pay2_apply (x : FVec Ideal S16x4096 .f32) (i : S16x4096.Idx) : k0_pay2 (F := Ideal) x i = Ideal.exp2 (Expo.expR (x i) (scaled (x i))) := by
  rw [← pay1_apply]; rfl

theorem pay3_apply (v : FVec Ideal S16x4096x1536 .f32) (x : FVec Ideal S16x4096 .f32) :
    (k0_pay3 (F := Ideal) v x (ix3 b r k) : EReal) = min (Ideal.ofBits .f32 0x47600000#32) (max (Ideal.ofBits .f32 0xC7600000#32)
      (v (ix3 b r k) * Ideal.exp2 (0 - Expo.expR (x (ix2 b r)) (scaled (x (ix2 b r)))))) := by
  show min _ (max _ (v (ix3 b r k) * broadcastTo S16x4096x1536 (shapeCast S16x4096x1
    (exp2 (F := Ideal) (subf (broadcast S16x4096 (Scalar.ofBits .f32 0x00000000#32)) (k0_pay1 x))) shapeCasts_S16x4096_S16x4096x1) _ (ix3 b r k))) = _
  rw [spread_apply, col_apply, ← pay1_apply]
  show min _ (max _ (_ * Ideal.exp2 (Ideal.ofBits .f32 0x00000000#32 - _))) = _
  rw [ofBits_zero_f32]
  rfl

theorem piece_apply (x : FVec Ideal S16x32x1536 .f32) (s : Fin 32) (u : Fin 1) :
    shapeCast S16x32x1x1536 x shapeCasts_S16x32x1536_S16x32x1x1536 (ix4 b s u k) = x (ix3 b s k) :=
  shapeCast_apply _ _ _ _ (by
    rw [Shape.rowMajor_val_four, Shape.rowMajor_val_three]
    show (b.val * 32 + s.val) * 1536 + k.val = ((b.val * 32 + s.val) * 1 + u.val) * 1536 + k.val
    omega)

theorem pay11_apply (s : Fin 32) (j : Fin 3) : k0_pay11 (F := Ideal) (k0_pay4 a3 a4) (k0_pay9 a5 a6) (k0_pay10 a0 a1 a5 a6) a2 (ix4 b s j k)
    = ∑ q : Fin 128, colTerm j (rX a0 a1 b (row s q)) (rDY a3 a4 b (row s q)) (rDH a5 a6 b (row s q)) (rF a2 b (row s q)) k := by
  unfold k0_pay11
  dsimp only
  concat_tiles i h
  all_goals
    have hi : i = ix4 b s 0 k := funext fun a => match a with
      | 0 => Fin.ext h0 | 1 => Fin.ext h1 | 2 => Fin.ext h2 | 3 => Fin.ext h3
    subst hi
    rw [piece_apply]
  · obtain rfl : j = 0 := Fin.ext h
    refine (blockSum_apply (k0_pay5 a5 a6) b s k).trans (Finset.sum_congr rfl fun q _ => ?_)
    rw [pay5_apply]; rfl
  · obtain rfl : j = 1 := Fin.ext h
    refine (blockSum_apply (mulf (k0_pay5 a5 a6) (k0_pay8 a0 a1)) b s k).trans (Finset.sum_congr rfl fun q _ => ?_)
    rw [mulf_apply, pay5_apply, pay8_apply]; rfl
  · obtain rfl : j = 2 := Fin.ext h
    refine (blockSum_apply (mulf (k0_pay4 a3 a4) (extf .f32 a2 bitsLt_bf16_f32)) b s k).trans (Finset.sum_congr rfl fun q _ => ?_)
    rw [mulf_apply, pay4_apply]; rfl

theorem pay12_apply (j : Fin 3) : k0_pay12 (F := Ideal) (k0_pay4 a3 a4) (k0_pay9 a5 a6) (k0_pay10 a0 a1 a5 a6) a2 (ix3 b j k)
    = ∑ s : Fin 32, ∑ q : Fin 128, colTerm j (rX a0 a1 b (row s q)) (rDY a3 a4 b (row s q)) (rDH a5 a6 b (row s q)) (rF a2 b (row s q)) k := by
  unfold k0_pay12
  dsimp only
  rw [stepSum_apply]
  exact Finset.sum_congr rfl fun s _ => pay11_apply a0 a1 a2 a3 a4 a5 a6 b k s j
/-! ## The result arrays -/

theorem ld3 {e : EltTy} (x : Vec Ideal S16x4096x1536 e) : View.ld x r0_0 = x := View.ld_unit_zero (S := S16x4096x1536) hz2 _ x
theorem ld2 {e : EltTy} (x : Vec Ideal S16x4096 e) : View.ld x r0_1 = x := View.ld_unit_zero (S := S16x4096) hz7 _ x
theorem ldw {e : EltTy} (x : Vec Ideal S16x1536 e) : View.ld x r0_4 = x := View.ld_unit_zero (S := S16x1536) hz7 _ x

theorem pay15_eq : k0_pay15 (F := Ideal) a0 a1 a2 a3 a4 a5 a6 a7 = k0_pay4 a3 a4 := by
  unfold k0_pay15; rw [ld3, ld2]
theorem pay16_eq : k0_pay16 (F := Ideal) a0 a1 a2 a3 a4 a5 a6 a7 = k0_pay5 a5 a6 := by
  unfold k0_pay16; rw [ld3, ld2]
theorem pay17_eq : k0_pay17 (F := Ideal) a0 a1 a2 a3 a4 a5 a6 a7 = k0_pay7 a0 a1 := by
  unfold k0_pay17; rw [ld3, ld2]
theorem pay18_eq : k0_pay18 (F := Ideal) a0 a1 a2 a3 a4 a5 a6 a7 = k0_pay8 a0 a1 := by
  unfold k0_pay18; rw [ld3, ld2]
theorem pay19_eq : k0_pay19 (F := Ideal) a0 a1 a2 a3 a4 a5 a6 a7 = k0_pay9 a5 a6 := by
  unfold k0_pay19; rw [ld3, ld2]
theorem pay20_eq : k0_pay20 (F := Ideal) a0 a1 a2 a3 a4 a5 a6 a7 = k0_pay10 a0 a1 a5 a6 := by
  unfold k0_pay20
  rw [ld3, ld2, ld3, ld2]
theorem pay21_eq : k0_pay21 (F := Ideal) a0 a1 a2 a3 a4 a5 a6 a7 = k0_pay14 (k0_pay4 a3 a4) (k0_pay5 a5 a6) (k0_pay7 a0 a1) (k0_pay8 a0 a1) a7 := by
  unfold k0_pay21
  rw [pay15_eq, pay16_eq, pay17_eq, pay18_eq, ldw]

theorem G8_apply (j : Fin 3) : G8 (F := Ideal) a0 a1 a2 a3 a4 a5 a6 a7 (ix3 b j k)
    = ∑ s : Fin 32, ∑ q : Fin 128, colTerm j (rX a0 a1 b (row s q)) (rDY a3 a4 b (row s q)) (rDH a5 a6 b (row s q)) (rF a2 b (row s q)) k := by
  unfold G8
  rw [pay15_eq, pay19_eq, pay20_eq, pay12_apply]
theorem G9_apply (s : Fin 32) (j : Fin 3) : G9 (F := Ideal) a0 a1 a2 a3 a4 a5 a6 a7 (ix4 b s j k)
    = ∑ q : Fin 128, colTerm j (rX a0 a1 b (row s q)) (rDY a3 a4 b (row s q)) (rDH a5 a6 b (row s q)) (rF a2 b (row s q)) k := by
  unfold G9
  rw [pay15_eq, pay19_eq, pay20_eq, pay11_apply]
theorem G10_apply : (G10 (F := Ideal) a0 a1 a2 a3 a4 a5 a6 a7 (ix3 b r k) : EReal) = code (rGrad a0 a1 a3 a4 a5 a6 a7 b r) k := by
  unfold G10
  rw [pay15_eq, pay16_eq, pay17_eq, pay18_eq, pay21_eq, pay3_apply, pay13_apply, pay14_apply]
  rfl
theorem G11_apply : (G11 (F := Ideal) a0 a1 a2 a3 a4 a5 a6 a7 (ix2 b r) : EReal) = scale (rGrad a0 a1 a3 a4 a5 a6 a7 b r) := by
  unfold G11
  rw [pay21_eq, pay2_apply, pay14_apply]
  rfl
end

end Cert.ReferenceIdeal.Hand

end
-- ==== Proof.Equation.lean ====
/- The kernel's four result arrays equal the reference's functions of the argument arrays. -/
module

public import proofs.«01_k».proof.Proof.KernelArrays
public import proofs.«01_k».proof.Proof.KernelBlock
public import proofs.«01_k».proof.Proof.RefValue

@[expose] public section

set_option maxRecDepth 16384

noncomputable section

namespace Cert.KernelIdeal.Hand

open Cert.KernelIdeal.Gen Cert.Row
open Idealize.ShloMosaic Idealize.ShloMosaic.TcCoe Idealize.ShloMosaic.ValueIdx Idealize.ShloMosaic.Ideal
open Idealize.SL.Sem
open Cert.ReferenceIdeal.Hand (rX rDY rDH rF rW rGrad G8 G9 G10 G11 G8_apply G9_apply G10_apply G11_apply)

instance elt_nonempty : ∀ e, Nonempty (Elt Ideal e) := fun e => inferInstance

variable (m : (ℓ : Loc nD τ sig) → Buf (Elt Ideal) ℓ) (c : Dev nD)

/-! ## The input windows at a point -/

theorem index0_c : ∀ t : Fin cfg0.N, win0_0.index t 0 = t.val / 32 ∧ win0_0.index t 1 = t.val % 32 ∧ win0_0.index t 2 = 0 := (by decide +kernel : ∀ t : Fin grid0.N, _)
theorem block0_apply (b : Fin 16) (s : Fin 32) (q : Fin 128) (k : Fin 1536) :
    iblk m c 0 (pt b s) (ix3 0 q k) = m ((c.tc : Thread nD τ).loc main_arg0) (ix3 b (row s q) k) := by
  show m ((c.tc : Thread nD τ).loc main_arg0) (((cfg0.win 0).blk (pt b s)).view.emb (ix3 0 q k)) = _
  congr 1
  obtain ⟨e0, e1, e2⟩ := index0_c (pt b s)
  rw [pt_div] at e0
  rw [pt_mod] at e1
  funext a; apply Fin.ext
  match a with
  | ⟨0, _⟩ => show win0_0.index (pt b s) (0 : Fin 3) * 1 + 1 * 0 = b.val; omega
  | ⟨1, _⟩ => show win0_0.index (pt b s) (1 : Fin 3) * 128 + 1 * q.val = 128 * s.val + q.val; omega
  | ⟨2, _⟩ => show win0_0.index (pt b s) (2 : Fin 3) * 1536 + 1 * k.val = k.val; omega
theorem index1_c : ∀ t : Fin cfg0.N, win0_1.index t 0 = 0 ∧ win0_1.index t 1 = 0 := (by decide +kernel : ∀ t : Fin grid0.N, _)
theorem block1_apply (t : Fin cfg0.N) (b : Fin 16) (k : Fin 4096) :
    iblk m c 1 t (ix2 b k) = m ((c.tc : Thread nD τ).loc main_arg1) (ix2 b k) := by
  show m ((c.tc : Thread nD τ).loc main_arg1) (((cfg0.win 1).blk t).view.emb (ix2 b k)) = _
  congr 1
  obtain ⟨e0, e1⟩ := index1_c t
  funext a; apply Fin.ext
  match a with
  | ⟨0, _⟩ => show win0_1.index t (0 : Fin 2) * 16 + 1 * b.val = b.val; omega
  | ⟨1, _⟩ => show win0_1.index t (1 : Fin 2) * 4096 + 1 * k.val = k.val; omega
theorem index2_c : ∀ t : Fin cfg0.N, win0_2.index t 0 = t.val / 32 ∧ win0_2.index t 1 = t.val % 32 ∧ win0_2.index t 2 = 0 := (by decide +kernel : ∀ t : Fin grid0.N, _)
theorem block2_apply (b : Fin 16) (s : Fin 32) (q : Fin 128) (k : Fin 1536) :
    iblk m c 2 (pt b s) (ix3 0 q k) = m ((c.tc : Thread nD τ).loc main_arg2) (ix3 b (row s q) k) := by
  show m ((c.tc : Thread nD τ).loc main_arg2) (((cfg0.win 2).blk (pt b s)).view.emb (ix3 0 q k)) = _
  congr 1
  obtain ⟨e0, e1, e2⟩ := index2_c (pt b s)
  rw [pt_div] at e0
  rw [pt_mod] at e1
  funext a; apply Fin.ext
  match a with
  | ⟨0, _⟩ => show win0_2.index (pt b s) (0 : Fin 3) * 1 + 1 * 0 = b.val; omega
  | ⟨1, _⟩ => show win0_2.index (pt b s) (1 : Fin 3) * 128 + 1 * q.val = 128 * s.val + q.val; omega
  | ⟨2, _⟩ => show win0_2.index (pt b s) (2 : Fin 3) * 1536 + 1 * k.val = k.val; omega
theorem index3_c : ∀ t : Fin cfg0.N, win0_3.index t 0 = t.val / 32 ∧ win0_3.index t 1 = t.val % 32 ∧ win0_3.index t 2 = 0 := (by decide +kernel : ∀ t : Fin grid0.N, _)
theorem block3_apply (b : Fin 16) (s : Fin 32) (q : Fin 128) (k : Fin 1536) :
    iblk m c 3 (pt b s) (ix3 0 q k) = m ((c.tc : Thread nD τ).loc main_arg3) (ix3 b (row s q) k) := by
  show m ((c.tc : Thread nD τ).loc main_arg3) (((cfg0.win 3).blk (pt b s)).view.emb (ix3 0 q k)) = _
  congr 1
  obtain ⟨e0, e1, e2⟩ := index3_c (pt b s)
  rw [pt_div] at e0
  rw [pt_mod] at e1
  funext a; apply Fin.ext
  match a with
  | ⟨0, _⟩ => show win0_3.index (pt b s) (0 : Fin 3) * 1 + 1 * 0 = b.val; omega
  | ⟨1, _⟩ => show win0_3.index (pt b s) (1 : Fin 3) * 128 + 1 * q.val = 128 * s.val + q.val; omega
  | ⟨2, _⟩ => show win0_3.index (pt b s) (2 : Fin 3) * 1536 + 1 * k.val = k.val; omega
theorem index4_c : ∀ t : Fin cfg0.N, win0_4.index t 0 = 0 ∧ win0_4.index t 1 = 0 := (by decide +kernel : ∀ t : Fin grid0.N, _)
theorem block4_apply (t : Fin cfg0.N) (b : Fin 16) (k : Fin 4096) :
    iblk m c 4 t (ix2 b k) = m ((c.tc : Thread nD τ).loc main_arg4) (ix2 b k) := by
  show m ((c.tc : Thread nD τ).loc main_arg4) (((cfg0.win 4).blk t).view.emb (ix2 b k)) = _
  congr 1
  obtain ⟨e0, e1⟩ := index4_c t
  funext a; apply Fin.ext
  match a with
  | ⟨0, _⟩ => show win0_4.index t (0 : Fin 2) * 16 + 1 * b.val = b.val; omega
  | ⟨1, _⟩ => show win0_4.index t (1 : Fin 2) * 4096 + 1 * k.val = k.val; omega
theorem index5_c : ∀ t : Fin cfg0.N, win0_5.index t 0 = t.val / 32 ∧ win0_5.index t 1 = t.val % 32 ∧ win0_5.index t 2 = 0 := (by decide +kernel : ∀ t : Fin grid0.N, _)
theorem block5_apply (b : Fin 16) (s : Fin 32) (q : Fin 128) (k : Fin 1536) :
    iblk m c 5 (pt b s) (ix3 0 q k) = m ((c.tc : Thread nD τ).loc main_arg5) (ix3 b (row s q) k) := by
  show m ((c.tc : Thread nD τ).loc main_arg5) (((cfg0.win 5).blk (pt b s)).view.emb (ix3 0 q k)) = _
  congr 1
  obtain ⟨e0, e1, e2⟩ := index5_c (pt b s)
  rw [pt_div] at e0
  rw [pt_mod] at e1
  funext a; apply Fin.ext
  match a with
  | ⟨0, _⟩ => show win0_5.index (pt b s) (0 : Fin 3) * 1 + 1 * 0 = b.val; omega
  | ⟨1, _⟩ => show win0_5.index (pt b s) (1 : Fin 3) * 128 + 1 * q.val = 128 * s.val + q.val; omega
  | ⟨2, _⟩ => show win0_5.index (pt b s) (2 : Fin 3) * 1536 + 1 * k.val = k.val; omega
theorem index6_c : ∀ t : Fin cfg0.N, win0_6.index t 0 = 0 ∧ win0_6.index t 1 = 0 := (by decide +kernel : ∀ t : Fin grid0.N, _)
theorem block6_apply (t : Fin cfg0.N) (b : Fin 16) (k : Fin 4096) :
    iblk m c 6 t (ix2 b k) = m ((c.tc : Thread nD τ).loc main_arg6) (ix2 b k) := by
  show m ((c.tc : Thread nD τ).loc main_arg6) (((cfg0.win 6).blk t).view.emb (ix2 b k)) = _
  congr 1
  obtain ⟨e0, e1⟩ := index6_c t
  funext a; apply Fin.ext
  match a with
  | ⟨0, _⟩ => show win0_6.index t (0 : Fin 2) * 16 + 1 * b.val = b.val; omega
  | ⟨1, _⟩ => show win0_6.index t (1 : Fin 2) * 4096 + 1 * k.val = k.val; omega
theorem index7_c : ∀ t : Fin cfg0.N, win0_7.index t 0 = 0 ∧ win0_7.index t 1 = 0 := (by decide +kernel : ∀ t : Fin grid0.N, _)
theorem block7_apply (t : Fin cfg0.N) (b : Fin 16) (k : Fin 1536) :
    iblk m c 7 t (ix2 b k) = m ((c.tc : Thread nD τ).loc main_arg7) (ix2 b k) := by
  show m ((c.tc : Thread nD τ).loc main_arg7) (((cfg0.win 7).blk t).view.emb (ix2 b k)) = _
  congr 1
  obtain ⟨e0, e1⟩ := index7_c t
  funext a; apply Fin.ext
  match a with
  | ⟨0, _⟩ => show win0_7.index t (0 : Fin 2) * 16 + 1 * b.val = b.val; omega
  | ⟨1, _⟩ => show win0_7.index t (1 : Fin 2) * 1536 + 1 * k.val = k.val; omega

/-! ## The rows at a point are the reference's rows -/

section
variable (b : Fin 16) (s : Fin 32) (q : Fin 128)

theorem iX_eq : iX b s (insAt m c (pt b s)) q = rX (m ((c.tc : Thread nD τ).loc main_arg0)) (m ((c.tc : Thread nD τ).loc main_arg1)) b (row s q) := funext fun k =>
  congrArg₂ (fun x y : EReal => x * y) (block0_apply m c b s q k) (block1_apply m c (pt b s) b (row s q))
theorem iDY_eq : iDY b s (insAt m c (pt b s)) q = rDY (m ((c.tc : Thread nD τ).loc main_arg3)) (m ((c.tc : Thread nD τ).loc main_arg4)) b (row s q) := funext fun k =>
  congrArg₂ (fun x y : EReal => x * y) (block3_apply m c b s q k) (block4_apply m c (pt b s) b (row s q))
theorem iDH_eq : iDH b s (insAt m c (pt b s)) q = rDH (m ((c.tc : Thread nD τ).loc main_arg5)) (m ((c.tc : Thread nD τ).loc main_arg6)) b (row s q) := funext fun k =>
  congrArg₂ (fun x y : EReal => x * y) (block5_apply m c b s q k) (block6_apply m c (pt b s) b (row s q))
theorem iF_eq : iF (insAt m c (pt b s)) q = rF (m ((c.tc : Thread nD τ).loc main_arg2)) b (row s q) := funext fun k => block2_apply m c b s q k
theorem iW_eq : iW b (insAt m c (pt b s)) = rW (m ((c.tc : Thread nD τ).loc main_arg7)) b := funext fun k =>
  congrArg (fun y : EReal => Ideal.ofBits .f32 0x3F800000#32 + y) (block7_apply m c (pt b s) b k)
theorem iGrad_eq : iGrad b s (insAt m c (pt b s)) q = rGrad (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b (row s q) := by
  unfold iGrad rGrad
  rw [iX_eq, iDY_eq, iDH_eq, iW_eq]

/-- A block's column sums are the reference's. -/
theorem colSum_eq (j : Fin 3) (k : Fin 1536) : colSum b s (insAt m c (pt b s)) j k = G9 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix4 b s j k) := by
  rw [G9_apply]
  unfold colSum
  simp only [iX_eq, iDY_eq, iDH_eq, iF_eq]
theorem blkAt_apply (j : Fin 3) (k : Fin 1536) : (blkAt m c (pt b s) (ix2 j k) : EReal) = colSum b s (insAt m c (pt b s)) j k :=
  bBlk_apply (pt b s) b s (pt_div b s) (pt_mod b s) _ j k
end

/-! ## The row totals -/

theorem pay1_apply (x : FVec Ideal S3x1536 .f32) (j : Fin 3) (k : Fin 1536) : k0_pay1 (F := Ideal) x (ix4 0 0 j k) = x (ix2 j k) :=
  shapeCast_apply _ _ _ _ (by
    rw [Shape.rowMajor_val_four, Shape.rowMajor_val_two]
    show j.val * 1536 + k.val = ((0 * 1 + 0) * 3 + j.val) * 1536 + k.val
    omega)
theorem pay2_apply (x : FVec Ideal S3x1536 .f32) (u : Fin 1) (j : Fin 3) (k : Fin 1536) : k0_pay2 (F := Ideal) x (ix3 u j k) = x (ix2 j k) :=
  shapeCast_ab_1ab_apply ..
theorem pay3_apply (x : FVec Ideal S3x1536 .f32) (old : Vec Ideal S1x3x1536 .f32) (j : Fin 3) (k : Fin 1536) :
    (k0_pay3 (F := Ideal) x old (ix3 0 j k) : EReal) = old (ix3 0 j k) + x (ix2 j k) := by
  unfold k0_pay3
  rw [shapeCast_ab_1ab_apply, addf_apply, shapeCast_1ab_ab_apply]

/-- After step `s` the row's totals are the sums over the steps so far. -/
theorem accAt_apply (b : Fin 16) (j : Fin 3) (k : Fin 1536) : ∀ (n : Nat) (hn : n < 32),
    (accAt m c (pt b ⟨n, hn⟩).val (pt b ⟨n, hn⟩).isLt (ix3 0 j k) : EReal)
      = ∑ s : Fin (n + 1), colSum b ⟨s.val, by have := s.isLt; omega⟩ (insAt m c (pt b ⟨s.val, by have := s.isLt; omega⟩)) j k
  | 0, hn => by
    rw [accAt_first m c (pt b ⟨0, hn⟩) (pt_mod b ⟨0, hn⟩), pay2_apply, blkAt_apply, Fin.sum_univ_one]
    rfl
  | n + 1, hn => by
    rw [accAt_later m c (pt b ⟨n + 1, hn⟩) (by rw [pt_mod]; exact Nat.succ_ne_zero n), pay3_apply, blkAt_apply, Fin.sum_univ_castSucc]
    congr 1
    exact accAt_apply b j k n (by omega)

/-! ## The result arrays -/

variable {m} {c} {μ : (ℓ : Loc nD τ sig) → Buf (Elt Ideal) ℓ} (h : Results m c μ)
include h

theorem result0 : μ ((c.tc : Thread nD τ).loc main_v0_0) = G8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨b, j, k, rfl⟩ : ∃ (b : Fin 16) (j : Fin 3) (k : Fin 1536), i = ix3 b j k := ⟨i 0, i 1, i 2, funext fun a => match a with | 0 => rfl | 1 => rfl | 2 => rfl⟩
  refine (h.dmod b j k).trans ((accAt_apply m c b j k 31 (by decide)).trans ?_)
  rw [G8_apply]
  refine Finset.sum_congr rfl fun s _ => ?_
  rw [← G9_apply]
  exact colSum_eq m c b s j k
theorem result1 : μ ((c.tc : Thread nD τ).loc main_v0_1) = G9 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨b, s, j, k, rfl⟩ : ∃ (b : Fin 16) (s : Fin 32) (j : Fin 3) (k : Fin 1536), i = ix4 b s j k :=
    ⟨i 0, i 1, i 2, i 3, funext fun a => match a with | 0 => rfl | 1 => rfl | 2 => rfl | 3 => rfl⟩
  refine (h.psum b s j k).trans ?_
  rw [← colSum_eq, ← blkAt_apply]
  exact pay1_apply _ j k
/-- Every row of the batch is a row of a block. -/
theorem row_surj (r : Fin 4096) : ∃ (s : Fin 32) (q : Fin 128), r = row s q :=
  ⟨⟨r.val / 128, by have := r.isLt; omega⟩, ⟨r.val % 128, Nat.mod_lt _ (by decide)⟩, Fin.ext (by show r.val = 128 * (r.val / 128) + r.val % 128; omega)⟩
theorem result2 : μ ((c.tc : Thread nD τ).loc main_v0_2) = G10 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨b, r, k, rfl⟩ : ∃ (b : Fin 16) (r : Fin 4096) (k : Fin 1536), i = ix3 b r k := ⟨i 0, i 1, i 2, funext fun a => match a with | 0 => rfl | 1 => rfl | 2 => rfl⟩
  obtain ⟨s, q, rfl⟩ := row_surj h r
  refine (h.code b s q k).trans ((bCodes_apply (pt b s) b s (pt_div b s) (pt_mod b s) _ q k).trans ?_)
  rw [iGrad_eq]
  exact (G10_apply ..).symm
theorem result3 : μ ((c.tc : Thread nD τ).loc main_v0_3) = G11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨b, r, rfl⟩ : ∃ (b : Fin 16) (r : Fin 4096), i = ix2 b r := ⟨i 0, i 1, funext fun a => match a with | 0 => rfl | 1 => rfl⟩
  obtain ⟨s, q, rfl⟩ := row_surj h r
  refine (h.scale b s q).trans ((bScales_apply (pt b s) b s (pt_div b s) (pt_mod b s) _ q 0).trans ?_)
  rw [iGrad_eq]
  exact (G11_apply ..).symm

/-! ## The run -/

omit h
variable (m) (ρ : Dev nD → PrngReg)

/-- The kernel leaves in its result arrays the reference's functions of the arguments, and the arguments as they were. -/
theorem run : θ_run defs (onTc (τ := τ) (main (F := Ideal))) ⟨m, fun _ => 0, ρ⟩ fun r => ∀ c : Dev nD,
      r.2.mem ((c.tc : Thread nD τ).loc main_v0_0) = G8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v0_1) = G9 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v0_2) = G10 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v0_3) = G11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨result0 (results m h.1 c), result1 (results m h.1 c), result2 (results m h.1 c), result3 (results m h.1 c),
    h.1.arr_in c 0 rfl, h.1.arr_in c 1 rfl, h.1.arr_in c 2 rfl, h.1.arr_in c 3 rfl, h.1.arr_in c 4 rfl, h.1.arr_in c 5 rfl, h.1.arr_in c 6 rfl, h.1.arr_in c 7 rfl⟩) (run_main m ρ)
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨h.1.arr_in c 0 rfl, h.1.arr_in c 1 rfl, h.1.arr_in c 2 rfl, h.1.arr_in c 3 rfl, h.1.arr_in c 4 rfl, h.1.arr_in c 5 rfl, h.1.arr_in c 6 rfl, h.1.arr_in c 7 rfl⟩, h.2⟩) (run_main m ρ)

end Cert.KernelIdeal.Hand

end
-- ==== Proof.lean ====
module

public import proofs.«01_k».proof.Defs
public import proofs.«01_k».proof.Proof.KernelFrame
public import proofs.«01_k».proof.Proof.Equation
public import proofs.«01_k».proof.Proof.RefRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

noncomputable section

namespace Cert.Proof

open Idealize.ShloMosaic Idealize.SL.Sem

theorem quiescentKernel : Cert.quiescent_Kernel (hKernel := Cert.Kernel.Gen.facts) := fun m g _ => Cert.Kernel.Hand.frame m g
theorem quiescentKernelIdeal : Cert.quiescent_KernelIdeal (hKernelIdeal := Cert.KernelIdeal.Gen.facts) := fun m g _ => Cert.KernelIdeal.Hand.frame m g
theorem quiescentReferenceIdeal : Cert.quiescent_ReferenceIdeal (hReferenceIdeal := Cert.ReferenceIdeal.Gen.facts) := fun m g _ =>
  Cert.ReferenceIdeal.Gen.frame m g

/-- The kernel and the reference, from the same arguments, end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, _, Cert.KernelIdeal.Hand.run m g, (θ_run Cert.ReferenceIdeal.defs _ _).mono (fun r h c => ?_) (Cert.ReferenceIdeal.Hand.run m' g')⟩
  obtain ⟨a0, a1, a2, a3, a4, a5, a6, a7⟩ := hargs c
  obtain ⟨h8, h9, h10, h11, hk⟩ := h c
  refine ⟨h8.trans ?_, h9.trans ?_, h10.trans ?_, h11.trans ?_, hk⟩ <;> rw [a0, a1, a2, a3, a4, a5, a6, a7]

theorem claim : Cert.Claim := ⟨Cert.Kernel.Gen.facts, Cert.KernelIdeal.Gen.facts, Cert.ReferenceIdeal.Gen.facts,
  quiescentKernel, quiescentKernelIdeal, quiescentReferenceIdeal, trivial, algebraic⟩

end Cert.Proof

end
